-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x224x224 : Shape := ⟨4, ![64, 3, 224, 224]⟩
abbrev S64 : Shape := ⟨1, ![64]⟩
abbrev S_ : Shape := ⟨0, ![]⟩
abbrev S64x1 : Shape := ⟨2, ![64, 1]⟩
abbrev S64x1x1000 : Shape := ⟨3, ![64, 1, 1000]⟩
abbrev S1x3x224x224 : Shape := ⟨4, ![1, 3, 224, 224]⟩
abbrev S1 : Shape := ⟨1, ![1]⟩
abbrev S16x3x224x224 : Shape := ⟨4, ![16, 3, 224, 224]⟩
abbrev S16x1x1000 : Shape := ⟨3, ![16, 1, 1000]⟩
abbrev S1x1000 : Shape := ⟨2, ![1, 1000]⟩
abbrev S3x224x224 : Shape := ⟨3, ![3, 224, 224]⟩
abbrev S1x1x1000 : Shape := ⟨3, ![1, 1, 1000]⟩
abbrev S1x3x80x224 : Shape := ⟨4, ![1, 3, 80, 224]⟩
abbrev S3x80x224 : Shape := ⟨3, ![3, 80, 224]⟩
abbrev S1x3x144x76 : Shape := ⟨4, ![1, 3, 144, 76]⟩
abbrev S3x144x76 : Shape := ⟨3, ![3, 144, 76]⟩
abbrev S1x3x144x148 : Shape := ⟨4, ![1, 3, 144, 148]⟩
abbrev S3x144x148 : Shape := ⟨3, ![3, 144, 148]⟩
abbrev S1x3x122x224 : Shape := ⟨4, ![1, 3, 122, 224]⟩
abbrev S3x122x224 : Shape := ⟨3, ![3, 122, 224]⟩
abbrev S1x3x102x80 : Shape := ⟨4, ![1, 3, 102, 80]⟩
abbrev S3x102x80 : Shape := ⟨3, ![3, 102, 80]⟩
abbrev S1x3x102x144 : Shape := ⟨4, ![1, 3, 102, 144]⟩
abbrev S3x102x144 : Shape := ⟨3, ![3, 102, 144]⟩
abbrev S64x1000 : Shape := ⟨2, ![64, 1000]⟩

abbrev nBuf : Space → Nat
  | .hbm => 19
  | .vmem => 36
  | .smem => 3
  | _ => 0

abbrev bufTy : (tb : Table) → Fin (tcTables nBuf tb) → BufTy
  | .hbm, ⟨0, _⟩ => ⟨S64x3x224x224, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x3x224x224, .f32⟩
  | .hbm, ⟨17, _⟩ => ⟨S64x1x1000, .f32⟩
  | .hbm, ⟨18, _⟩ => ⟨S64x1000, .f32⟩
  | .local _ .vmem, ⟨0, _⟩ => ⟨S1x3x224x224, .f32⟩
  | .local _ .vmem, ⟨1, _⟩ => ⟨S1x3x224x224, .f32⟩
  | .local _ .vmem, ⟨2, _⟩ => ⟨S1x3x224x224, .f32⟩
  | .local _ .vmem, ⟨3, _⟩ => ⟨S1x3x224x224, .f32⟩
  | .local _ .vmem, ⟨4, _⟩ => ⟨S1x3x224x224, .f32⟩
  | .local _ .vmem, ⟨5, _⟩ => ⟨S1x3x224x224, .f32⟩
  | .local _ .vmem, ⟨6, _⟩ => ⟨S1x3x224x224, .f32⟩
  | .local _ .vmem, ⟨7, _⟩ => ⟨S1x3x224x224, .f32⟩
  | .local _ .vmem, ⟨8, _⟩ => ⟨S1x3x224x224, .f32⟩
  | .local _ .vmem, ⟨9, _⟩ => ⟨S1x3x224x224, .f32⟩
  | .local _ .vmem, ⟨10, _⟩ => ⟨S1x3x224x224, .f32⟩
  | .local _ .vmem, ⟨11, _⟩ => ⟨S1x3x224x224, .f32⟩
  | .local _ .vmem, ⟨12, _⟩ => ⟨S1x3x224x224, .f32⟩
  | .local _ .vmem, ⟨13, _⟩ => ⟨S1x3x224x224, .f32⟩
  | .local _ .vmem, ⟨14, _⟩ => ⟨S1x3x224x224, .f32⟩
  | .local _ .vmem, ⟨15, _⟩ => ⟨S1x3x224x224, .f32⟩
  | .local _ .vmem, ⟨16, _⟩ => ⟨S1x3x224x224, .f32⟩
  | .local _ .vmem, ⟨17, _⟩ => ⟨S1x3x224x224, .f32⟩
  | .local _ .vmem, ⟨18, _⟩ => ⟨S1x3x224x224, .f32⟩
  | .local _ .vmem, ⟨19, _⟩ => ⟨S1x3x224x224, .f32⟩
  | .local _ .vmem, ⟨20, _⟩ => ⟨S1x3x224x224, .f32⟩
  | .local _ .vmem, ⟨21, _⟩ => ⟨S1x3x224x224, .f32⟩
  | .local _ .vmem, ⟨22, _⟩ => ⟨S1x3x224x224, .f32⟩
  | .local _ .vmem, ⟨23, _⟩ => ⟨S1x3x224x224, .f32⟩
  | .local _ .vmem, ⟨24, _⟩ => ⟨S1x3x224x224, .f32⟩
  | .local _ .vmem, ⟨25, _⟩ => ⟨S1x3x224x224, .f32⟩
  | .local _ .vmem, ⟨26, _⟩ => ⟨S1x3x224x224, .f32⟩
  | .local _ .vmem, ⟨27, _⟩ => ⟨S1x3x224x224, .f32⟩
  | .local _ .vmem, ⟨28, _⟩ => ⟨S1x3x224x224, .f32⟩
  | .local _ .vmem, ⟨29, _⟩ => ⟨S1x3x224x224, .f32⟩
  | .local _ .vmem, ⟨30, _⟩ => ⟨S1x3x224x224, .f32⟩
  | .local _ .vmem, ⟨31, _⟩ => ⟨S1x3x224x224, .f32⟩
  | .local _ .vmem, ⟨32, _⟩ => ⟨S16x3x224x224, .f32⟩
  | .local _ .vmem, ⟨33, _⟩ => ⟨S16x3x224x224, .f32⟩
  | .local _ .vmem, ⟨34, _⟩ => ⟨S16x1x1000, .f32⟩
  | .local _ .vmem, ⟨35, _⟩ => ⟨S16x1x1000, .f32⟩
  | .local _ .smem, ⟨0, _⟩ => ⟨S64, .i32⟩
  | .local _ .smem, ⟨1, _⟩ => ⟨S64, .i32⟩
  | .local _ .smem, ⟨2, _⟩ => ⟨S64, .i32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1_0 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v3 : Ref sig .tc := ⟨.smem, 0, rfl⟩
abbrev main_v10 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![4], ![false]⟩

abbrev pre0 : Pipeline.Prefetch sig := ⟨3, ![main_v3.idx, main_v10.idx, main_arg1.idx], fun | 0 => main_v3.names | 1 => main_v10.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 (i : grid0.Coords) : Fin 1 → Nat :=
  let arg0 : BitVec 32 := BitVec.ofNat 32 (i 0).val
  let c16_i32 : BitVec 32 := 16#32
  let v205 : BitVec 32 := Scalar.muli arg0 c16_i32
  let c0_i32_211 : BitVec 32 := 0#32
  let v206 : BitVec 32 := Scalar.addi v205 c0_i32_211
  let v207 : Index := Scalar.indexCast v206
  ![v207.toNat]
def k0_off3 (v208 : BitVec 32) : Fin 1 → Nat :=
  let v209 : Index := Scalar.indexCast v208
  ![v209.toNat]

def k0_chk1 (i : grid0.Coords) (v208 : BitVec 32) : Prop :=
  (∀ (k0_h1 : k0_cond1 i = 1#1), ∀ a, (k0_off3 v208) a + S1.size a ≤ S64.size a)
theorem k0_off3_inb : ∀ (i : grid0.Coords) (v208 : BitVec 32) (k0_hw1 : k0_chk1 i v208), ∀ (k0_h1 : k0_cond1 i = 1#1), ∀ a, (k0_off3 v208) a + S1.size a ≤ S64.size a := fun i v208 k0_hw1 k0_h1 => k0_hw1 k0_h1

def k0_off4 (i : grid0.Coords) : Fin 1 → Nat :=
  let arg0 : BitVec 32 := BitVec.ofNat 32 (i 0).val
  let c16_i32_212 : BitVec 32 := 16#32
  let v211 : BitVec 32 := Scalar.muli arg0 c16_i32_212
  let c0_i32_213 : BitVec 32 := 0#32
  let v212 : BitVec 32 := Scalar.addi v211 c0_i32_213
  let v213 : Index := Scalar.indexCast v212
  ![v213.toNat]
def k0_off5 (v214 : BitVec 32) : Fin 1 → Nat :=
  let v215 : Index := Scalar.indexCast v214
  ![v215.toNat]

def k0_chk2 (i : grid0.Coords) (v214 : BitVec 32) : Prop :=
  (∀ (k0_h1 : k0_cond1 i = 1#1), ∀ a, (k0_off5 v214) a + S1.size a ≤ S64.size a)
theorem k0_off5_inb : ∀ (i : grid0.Coords) (v214 : BitVec 32) (k0_hw2 : k0_chk2 i v214), ∀ (k0_h1 : k0_cond1 i = 1#1), ∀ a, (k0_off5 v214) a + S1.size a ≤ S64.size a := fun i v214 k0_hw2 k0_h1 => k0_hw2 k0_h1

def k0_off6 (i : grid0.Coords) : Fin 1 → Nat :=
  let arg0 : BitVec 32 := BitVec.ofNat 32 (i 0).val
  let c16_i32_219 : BitVec 32 := 16#32
  let v233 : BitVec 32 := Scalar.muli arg0 c16_i32_219
  let c1_i32_220 : BitVec 32 := 1#32
  let v234 : BitVec 32 := Scalar.addi v233 c1_i32_220
  let v235 : Index := Scalar.indexCast v234
  ![v235.toNat]
def k0_off7 (v236 : BitVec 32) : Fin 1 → Nat :=
  let v237 : Index := Scalar.indexCast v236
  ![v237.toNat]

def k0_chk3 (i : grid0.Coords) (v236 : BitVec 32) : Prop :=
  (∀ (k0_h1 : k0_cond1 i = 1#1), ∀ a, (k0_off7 v236) a + S1.size a ≤ S64.size a)
theorem k0_off7_inb : ∀ (i : grid0.Coords) (v236 : BitVec 32) (k0_hw3 : k0_chk3 i v236), ∀ (k0_h1 : k0_cond1 i = 1#1), ∀ a, (k0_off7 v236) a + S1.size a ≤ S64.size a := fun i v236 k0_hw3 k0_h1 => k0_hw3 k0_h1

def k0_off8 (i : grid0.Coords) : Fin 1 → Nat :=
  let arg0 : BitVec 32 := BitVec.ofNat 32 (i 0).val
  let c16_i32_221 : BitVec 32 := 16#32
  let v239 : BitVec 32 := Scalar.muli arg0 c16_i32_221
  let c1_i32_222 : BitVec 32 := 1#32
  let v240 : BitVec 32 := Scalar.addi v239 c1_i32_222
  let v241 : Index := Scalar.indexCast v240
  ![v241.toNat]
def k0_off9 (v242 : BitVec 32) : Fin 1 → Nat :=
  let v243 : Index := Scalar.indexCast v242
  ![v243.toNat]

def k0_chk4 (i : grid0.Coords) (v242 : BitVec 32) : Prop :=
  (∀ (k0_h1 : k0_cond1 i = 1#1), ∀ a, (k0_off9 v242) a + S1.size a ≤ S64.size a)
theorem k0_off9_inb : ∀ (i : grid0.Coords) (v242 : BitVec 32) (k0_hw4 : k0_chk4 i v242), ∀ (k0_h1 : k0_cond1 i = 1#1), ∀ a, (k0_off9 v242) a + S1.size a ≤ S64.size a := fun i v242 k0_hw4 k0_h1 => k0_hw4 k0_h1

def k0_off10 (i : grid0.Coords) : Fin 1 → Nat :=
  let arg0 : BitVec 32 := BitVec.ofNat 32 (i 0).val
  let c16_i32_228 : BitVec 32 := 16#32
  let v261 : BitVec 32 := Scalar.muli arg0 c16_i32_228
  let c2_i32_229 : BitVec 32 := 2#32
  let v262 : BitVec 32 := Scalar.addi v261 c2_i32_229
  let v263 : Index := Scalar.indexCast v262
  ![v263.toNat]
def k0_off11 (v264 : BitVec 32) : Fin 1 → Nat :=
  let v265 : Index := Scalar.indexCast v264
  ![v265.toNat]

def k0_chk5 (i : grid0.Coords) (v264 : BitVec 32) : Prop :=
  (∀ (k0_h1 : k0_cond1 i = 1#1), ∀ a, (k0_off11 v264) a + S1.size a ≤ S64.size a)
theorem k0_off11_inb : ∀ (i : grid0.Coords) (v264 : BitVec 32) (k0_hw5 : k0_chk5 i v264), ∀ (k0_h1 : k0_cond1 i = 1#1), ∀ a, (k0_off11 v264) a + S1.size a ≤ S64.size a := fun i v264 k0_hw5 k0_h1 => k0_hw5 k0_h1

def k0_off12 (i : grid0.Coords) : Fin 1 → Nat :=
  let arg0 : BitVec 32 := BitVec.ofNat 32 (i 0).val
  let c16_i32_230 : BitVec 32 := 16#32
  let v267 : BitVec 32 := Scalar.muli arg0 c16_i32_230
  let c2_i32_231 : BitVec 32 := 2#32
  let v268 : BitVec 32 := Scalar.addi v267 c2_i32_231
  let v269 : Index := Scalar.indexCast v268
  ![v269.toNat]
def k0_off13 (v270 : BitVec 32) : Fin 1 → Nat :=
  let v271 : Index := Scalar.indexCast v270
  ![v271.toNat]

def k0_chk6 (i : grid0.Coords) (v270 : BitVec 32) : Prop :=
  (∀ (k0_h1 : k0_cond1 i = 1#1), ∀ a, (k0_off13 v270) a + S1.size a ≤ S64.size a)
theorem k0_off13_inb : ∀ (i : grid0.Coords) (v270 : BitVec 32) (k0_hw6 : k0_chk6 i v270), ∀ (k0_h1 : k0_cond1 i = 1#1), ∀ a, (k0_off13 v270) a + S1.size a ≤ S64.size a := fun i v270 k0_hw6 k0_h1 => k0_hw6 k0_h1

def k0_off14 (i : grid0.Coords) : Fin 1 → Nat :=
  let arg0 : BitVec 32 := BitVec.ofNat 32 (i 0).val
  let c16_i32_237 : BitVec 32 := 16#32
  let v289 : BitVec 32 := Scalar.muli arg0 c16_i32_237
  let c3_i32_238 : BitVec 32 := 3#32
  let v290 : BitVec 32 := Scalar.addi v289 c3_i32_238
  let v291 : Index := Scalar.indexCast v290
  ![v291.toNat]
def k0_off15 (v292 : BitVec 32) : Fin 1 → Nat :=
  let v293 : Index := Scalar.indexCast v292
  ![v293.toNat]

def k0_chk7 (i : grid0.Coords) (v292 : BitVec 32) : Prop :=
  (∀ (k0_h1 : k0_cond1 i = 1#1), ∀ a, (k0_off15 v292) a + S1.size a ≤ S64.size a)
theorem k0_off15_inb : ∀ (i : grid0.Coords) (v292 : BitVec 32) (k0_hw7 : k0_chk7 i v292), ∀ (k0_h1 : k0_cond1 i = 1#1), ∀ a, (k0_off15 v292) a + S1.size a ≤ S64.size a := fun i v292 k0_hw7 k0_h1 => k0_hw7 k0_h1

def k0_off16 (i : grid0.Coords) : Fin 1 → Nat :=
  let arg0 : BitVec 32 := BitVec.ofNat 32 (i 0).val
  let c16_i32_239 : BitVec 32 := 16#32
  let v295 : BitVec 32 := Scalar.muli arg0 c16_i32_239
  let c3_i32_240 : BitVec 32 := 3#32
  let v296 : BitVec 32 := Scalar.addi v295 c3_i32_240
  let v297 : Index := Scalar.indexCast v296
  ![v297.toNat]
def k0_off17 (v298 : BitVec 32) : Fin 1 → Nat :=
  let v299 : Index := Scalar.indexCast v298
  ![v299.toNat]

def k0_chk8 (i : grid0.Coords) (v298 : BitVec 32) : Prop :=
  (∀ (k0_h1 : k0_cond1 i = 1#1), ∀ a, (k0_off17 v298) a + S1.size a ≤ S64.size a)
theorem k0_off17_inb : ∀ (i : grid0.Coords) (v298 : BitVec 32) (k0_hw8 : k0_chk8 i v298), ∀ (k0_h1 : k0_cond1 i = 1#1), ∀ a, (k0_off17 v298) a + S1.size a ≤ S64.size a := fun i v298 k0_hw8 k0_h1 => k0_hw8 k0_h1

def k0_off18 (i : grid0.Coords) : Fin 1 → Nat :=
  let arg0 : BitVec 32 := BitVec.ofNat 32 (i 0).val
  let c16_i32_246 : BitVec 32 := 16#32
  let v317 : BitVec 32 := Scalar.muli arg0 c16_i32_246
  let c4_i32 : BitVec 32 := 4#32
  let v318 : BitVec 32 := Scalar.addi v317 c4_i32
  let v319 : Index := Scalar.indexCast v318
  ![v319.toNat]
def k0_off19 (v320 : BitVec 32) : Fin 1 → Nat :=
  let v321 : Index := Scalar.indexCast v320
  ![v321.toNat]

def k0_chk9 (i : grid0.Coords) (v320 : BitVec 32) : Prop :=
  (∀ (k0_h1 : k0_cond1 i = 1#1), ∀ a, (k0_off19 v320) a + S1.size a ≤ S64.size a)
theorem k0_off19_inb : ∀ (i : grid0.Coords) (v320 : BitVec 32) (k0_hw9 : k0_chk9 i v320), ∀ (k0_h1 : k0_cond1 i = 1#1), ∀ a, (k0_off19 v320) a + S1.size a ≤ S64.size a := fun i v320 k0_hw9 k0_h1 => k0_hw9 k0_h1

def k0_off20 (i : grid0.Coords) : Fin 1 → Nat :=
  let arg0 : BitVec 32 := BitVec.ofNat 32 (i 0).val
  let c16_i32_247 : BitVec 32 := 16#32
  let v323 : BitVec 32 := Scalar.muli arg0 c16_i32_247
  let c4_i32_248 : BitVec 32 := 4#32
  let v324 : BitVec 32 := Scalar.addi v323 c4_i32_248
  let v325 : Index := Scalar.indexCast v324
  ![v325.toNat]
def k0_off21 (v326 : BitVec 32) : Fin 1 → Nat :=
  let v327 : Index := Scalar.indexCast v326
  ![v327.toNat]

def k0_chk10 (i : grid0.Coords) (v326 : BitVec 32) : Prop :=
  (∀ (k0_h1 : k0_cond1 i = 1#1), ∀ a, (k0_off21 v326) a + S1.size a ≤ S64.size a)
theorem k0_off21_inb : ∀ (i : grid0.Coords) (v326 : BitVec 32) (k0_hw10 : k0_chk10 i v326), ∀ (k0_h1 : k0_cond1 i = 1#1), ∀ a, (k0_off21 v326) a + S1.size a ≤ S64.size a := fun i v326 k0_hw10 k0_h1 => k0_hw10 k0_h1

def k0_off22 (i : grid0.Coords) : Fin 1 → Nat :=
  let arg0 : BitVec 32 := BitVec.ofNat 32 (i 0).val
  let c16_i32_254 : BitVec 32 := 16#32
  let v345 : BitVec 32 := Scalar.muli arg0 c16_i32_254
  let c5_i32 : BitVec 32 := 5#32
  let v346 : BitVec 32 := Scalar.addi v345 c5_i32
  let v347 : Index := Scalar.indexCast v346
  ![v347.toNat]
def k0_off23 (v348 : BitVec 32) : Fin 1 → Nat :=
  let v349 : Index := Scalar.indexCast v348
  ![v349.toNat]

def k0_chk11 (i : grid0.Coords) (v348 : BitVec 32) : Prop :=
  (∀ (k0_h1 : k0_cond1 i = 1#1), ∀ a, (k0_off23 v348) a + S1.size a ≤ S64.size a)
theorem k0_off23_inb : ∀ (i : grid0.Coords) (v348 : BitVec 32) (k0_hw11 : k0_chk11 i v348), ∀ (k0_h1 : k0_cond1 i = 1#1), ∀ a, (k0_off23 v348) a + S1.size a ≤ S64.size a := fun i v348 k0_hw11 k0_h1 => k0_hw11 k0_h1

def k0_off24 (i : grid0.Coords) : Fin 1 → Nat :=
  let arg0 : BitVec 32 := BitVec.ofNat 32 (i 0).val
  let c16_i32_255 : BitVec 32 := 16#32
  let v351 : BitVec 32 := Scalar.muli arg0 c16_i32_255
  let c5_i32_256 : BitVec 32 := 5#32
  let v352 : BitVec 32 := Scalar.addi v351 c5_i32_256
  let v353 : Index := Scalar.indexCast v352
  ![v353.toNat]
def k0_off25 (v354 : BitVec 32) : Fin 1 → Nat :=
  let v355 : Index := Scalar.indexCast v354
  ![v355.toNat]

def k0_chk12 (i : grid0.Coords) (v354 : BitVec 32) : Prop :=
  (∀ (k0_h1 : k0_cond1 i = 1#1), ∀ a, (k0_off25 v354) a + S1.size a ≤ S64.size a)
theorem k0_off25_inb : ∀ (i : grid0.Coords) (v354 : BitVec 32) (k0_hw12 : k0_chk12 i v354), ∀ (k0_h1 : k0_cond1 i = 1#1), ∀ a, (k0_off25 v354) a + S1.size a ≤ S64.size a := fun i v354 k0_hw12 k0_h1 => k0_hw12 k0_h1

def k0_off26 (i : grid0.Coords) : Fin 1 → Nat :=
  let arg0 : BitVec 32 := BitVec.ofNat 32 (i 0).val
  let c16_i32_262 : BitVec 32 := 16#32
  let v373 : BitVec 32 := Scalar.muli arg0 c16_i32_262
  let c6_i32 : BitVec 32 := 6#32
  let v374 : BitVec 32 := Scalar.addi v373 c6_i32
  let v375 : Index := Scalar.indexCast v374
  ![v375.toNat]
def k0_off27 (v376 : BitVec 32) : Fin 1 → Nat :=
  let v377 : Index := Scalar.indexCast v376
  ![v377.toNat]

def k0_chk13 (i : grid0.Coords) (v376 : BitVec 32) : Prop :=
  (∀ (k0_h1 : k0_cond1 i = 1#1), ∀ a, (k0_off27 v376) a + S1.size a ≤ S64.size a)
theorem k0_off27_inb : ∀ (i : grid0.Coords) (v376 : BitVec 32) (k0_hw13 : k0_chk13 i v376), ∀ (k0_h1 : k0_cond1 i = 1#1), ∀ a, (k0_off27 v376) a + S1.size a ≤ S64.size a := fun i v376 k0_hw13 k0_h1 => k0_hw13 k0_h1

def k0_off28 (i : grid0.Coords) : Fin 1 → Nat :=
  let arg0 : BitVec 32 := BitVec.ofNat 32 (i 0).val
  let c16_i32_263 : BitVec 32 := 16#32
  let v379 : BitVec 32 := Scalar.muli arg0 c16_i32_263
  let c6_i32_264 : BitVec 32 := 6#32
  let v380 : BitVec 32 := Scalar.addi v379 c6_i32_264
  let v381 : Index := Scalar.indexCast v380
  ![v381.toNat]
def k0_off29 (v382 : BitVec 32) : Fin 1 → Nat :=
  let v383 : Index := Scalar.indexCast v382
  ![v383.toNat]

def k0_chk14 (i : grid0.Coords) (v382 : BitVec 32) : Prop :=
  (∀ (k0_h1 : k0_cond1 i = 1#1), ∀ a, (k0_off29 v382) a + S1.size a ≤ S64.size a)
theorem k0_off29_inb : ∀ (i : grid0.Coords) (v382 : BitVec 32) (k0_hw14 : k0_chk14 i v382), ∀ (k0_h1 : k0_cond1 i = 1#1), ∀ a, (k0_off29 v382) a + S1.size a ≤ S64.size a := fun i v382 k0_hw14 k0_h1 => k0_hw14 k0_h1

def k0_off30 (i : grid0.Coords) : Fin 1 → Nat :=
  let arg0 : BitVec 32 := BitVec.ofNat 32 (i 0).val
  let c16_i32_270 : BitVec 32 := 16#32
  let v401 : BitVec 32 := Scalar.muli arg0 c16_i32_270
  let c7_i32 : BitVec 32 := 7#32
  let v402 : BitVec 32 := Scalar.addi v401 c7_i32
  let v403 : Index := Scalar.indexCast v402
  ![v403.toNat]
def k0_off31 (v404 : BitVec 32) : Fin 1 → Nat :=
  let v405 : Index := Scalar.indexCast v404
  ![v405.toNat]

def k0_chk15 (i : grid0.Coords) (v404 : BitVec 32) : Prop :=
  (∀ (k0_h1 : k0_cond1 i = 1#1), ∀ a, (k0_off31 v404) a + S1.size a ≤ S64.size a)
theorem k0_off31_inb : ∀ (i : grid0.Coords) (v404 : BitVec 32) (k0_hw15 : k0_chk15 i v404), ∀ (k0_h1 : k0_cond1 i = 1#1), ∀ a, (k0_off31 v404) a + S1.size a ≤ S64.size a := fun i v404 k0_hw15 k0_h1 => k0_hw15 k0_h1

def k0_off32 (i : grid0.Coords) : Fin 1 → Nat :=
  let arg0 : BitVec 32 := BitVec.ofNat 32 (i 0).val
  let c16_i32_271 : BitVec 32 := 16#32
  let v407 : BitVec 32 := Scalar.muli arg0 c16_i32_271
  let c7_i32_272 : BitVec 32 := 7#32
  let v408 : BitVec 32 := Scalar.addi v407 c7_i32_272
  let v409 : Index := Scalar.indexCast v408
  ![v409.toNat]
def k0_off33 (v410 : BitVec 32) : Fin 1 → Nat :=
  let v411 : Index := Scalar.indexCast v410
  ![v411.toNat]

def k0_chk16 (i : grid0.Coords) (v410 : BitVec 32) : Prop :=
  (∀ (k0_h1 : k0_cond1 i = 1#1), ∀ a, (k0_off33 v410) a + S1.size a ≤ S64.size a)
theorem k0_off33_inb : ∀ (i : grid0.Coords) (v410 : BitVec 32) (k0_hw16 : k0_chk16 i v410), ∀ (k0_h1 : k0_cond1 i = 1#1), ∀ a, (k0_off33 v410) a + S1.size a ≤ S64.size a := fun i v410 k0_hw16 k0_h1 => k0_hw16 k0_h1

def k0_off34 (i : grid0.Coords) : Fin 1 → Nat :=
  let arg0 : BitVec 32 := BitVec.ofNat 32 (i 0).val
  let c16_i32_278 : BitVec 32 := 16#32
  let v429 : BitVec 32 := Scalar.muli arg0 c16_i32_278
  let c8_i32 : BitVec 32 := 8#32
  let v430 : BitVec 32 := Scalar.addi v429 c8_i32
  let v431 : Index := Scalar.indexCast v430
  ![v431.toNat]
def k0_off35 (v432 : BitVec 32) : Fin 1 → Nat :=
  let v433 : Index := Scalar.indexCast v432
  ![v433.toNat]

def k0_chk17 (i : grid0.Coords) (v432 : BitVec 32) : Prop :=
  (∀ (k0_h1 : k0_cond1 i = 1#1), ∀ a, (k0_off35 v432) a + S1.size a ≤ S64.size a)
theorem k0_off35_inb : ∀ (i : grid0.Coords) (v432 : BitVec 32) (k0_hw17 : k0_chk17 i v432), ∀ (k0_h1 : k0_cond1 i = 1#1), ∀ a, (k0_off35 v432) a + S1.size a ≤ S64.size a := fun i v432 k0_hw17 k0_h1 => k0_hw17 k0_h1

def k0_off36 (i : grid0.Coords) : Fin 1 → Nat :=
  let arg0 : BitVec 32 := BitVec.ofNat 32 (i 0).val
  let c16_i32_279 : BitVec 32 := 16#32
  let v435 : BitVec 32 := Scalar.muli arg0 c16_i32_279
  let c8_i32_280 : BitVec 32 := 8#32
  let v436 : BitVec 32 := Scalar.addi v435 c8_i32_280
  let v437 : Index := Scalar.indexCast v436
  ![v437.toNat]
def k0_off37 (v438 : BitVec 32) : Fin 1 → Nat :=
  let v439 : Index := Scalar.indexCast v438
  ![v439.toNat]

def k0_chk18 (i : grid0.Coords) (v438 : BitVec 32) : Prop :=
  (∀ (k0_h1 : k0_cond1 i = 1#1), ∀ a, (k0_off37 v438) a + S1.size a ≤ S64.size a)
theorem k0_off37_inb : ∀ (i : grid0.Coords) (v438 : BitVec 32) (k0_hw18 : k0_chk18 i v438), ∀ (k0_h1 : k0_cond1 i = 1#1), ∀ a, (k0_off37 v438) a + S1.size a ≤ S64.size a := fun i v438 k0_hw18 k0_h1 => k0_hw18 k0_h1

def k0_off38 (i : grid0.Coords) : Fin 1 → Nat :=
  let arg0 : BitVec 32 := BitVec.ofNat 32 (i 0).val
  let c16_i32_286 : BitVec 32 := 16#32
  let v457 : BitVec 32 := Scalar.muli arg0 c16_i32_286
  let c9_i32 : BitVec 32 := 9#32
  let v458 : BitVec 32 := Scalar.addi v457 c9_i32
  let v459 : Index := Scalar.indexCast v458
  ![v459.toNat]
def k0_off39 (v460 : BitVec 32) : Fin 1 → Nat :=
  let v461 : Index := Scalar.indexCast v460
  ![v461.toNat]

def k0_chk19 (i : grid0.Coords) (v460 : BitVec 32) : Prop :=
  (∀ (k0_h1 : k0_cond1 i = 1#1), ∀ a, (k0_off39 v460) a + S1.size a ≤ S64.size a)
theorem k0_off39_inb : ∀ (i : grid0.Coords) (v460 : BitVec 32) (k0_hw19 : k0_chk19 i v460), ∀ (k0_h1 : k0_cond1 i = 1#1), ∀ a, (k0_off39 v460) a + S1.size a ≤ S64.size a := fun i v460 k0_hw19 k0_h1 => k0_hw19 k0_h1

def k0_off40 (i : grid0.Coords) : Fin 1 → Nat :=
  let arg0 : BitVec 32 := BitVec.ofNat 32 (i 0).val
  let c16_i32_287 : BitVec 32 := 16#32
  let v463 : BitVec 32 := Scalar.muli arg0 c16_i32_287
  let c9_i32_288 : BitVec 32 := 9#32
  let v464 : BitVec 32 := Scalar.addi v463 c9_i32_288
  let v465 : Index := Scalar.indexCast v464
  ![v465.toNat]
def k0_off41 (v466 : BitVec 32) : Fin 1 → Nat :=
  let v467 : Index := Scalar.indexCast v466
  ![v467.toNat]

def k0_chk20 (i : grid0.Coords) (v466 : BitVec 32) : Prop :=
  (∀ (k0_h1 : k0_cond1 i = 1#1), ∀ a, (k0_off41 v466) a + S1.size a ≤ S64.size a)
theorem k0_off41_inb : ∀ (i : grid0.Coords) (v466 : BitVec 32) (k0_hw20 : k0_chk20 i v466), ∀ (k0_h1 : k0_cond1 i = 1#1), ∀ a, (k0_off41 v466) a + S1.size a ≤ S64.size a := fun i v466 k0_hw20 k0_h1 => k0_hw20 k0_h1

def k0_off42 (i : grid0.Coords) : Fin 1 → Nat :=
  let arg0 : BitVec 32 := BitVec.ofNat 32 (i 0).val
  let c16_i32_294 : BitVec 32 := 16#32
  let v485 : BitVec 32 := Scalar.muli arg0 c16_i32_294
  let c10_i32 : BitVec 32 := 10#32
  let v486 : BitVec 32 := Scalar.addi v485 c10_i32
  let v487 : Index := Scalar.indexCast v486
  ![v487.toNat]
def k0_off43 (v488 : BitVec 32) : Fin 1 → Nat :=
  let v489 : Index := Scalar.indexCast v488
  ![v489.toNat]

def k0_chk21 (i : grid0.Coords) (v488 : BitVec 32) : Prop :=
  (∀ (k0_h1 : k0_cond1 i = 1#1), ∀ a, (k0_off43 v488) a + S1.size a ≤ S64.size a)
theorem k0_off43_inb : ∀ (i : grid0.Coords) (v488 : BitVec 32) (k0_hw21 : k0_chk21 i v488), ∀ (k0_h1 : k0_cond1 i = 1#1), ∀ a, (k0_off43 v488) a + S1.size a ≤ S64.size a := fun i v488 k0_hw21 k0_h1 => k0_hw21 k0_h1

def k0_off44 (i : grid0.Coords) : Fin 1 → Nat :=
  let arg0 : BitVec 32 := BitVec.ofNat 32 (i 0).val
  let c16_i32_295 : BitVec 32 := 16#32
  let v491 : BitVec 32 := Scalar.muli arg0 c16_i32_295
  let c10_i32_296 : BitVec 32 := 10#32
  let v492 : BitVec 32 := Scalar.addi v491 c10_i32_296
  let v493 : Index := Scalar.indexCast v492
  ![v493.toNat]
def k0_off45 (v494 : BitVec 32) : Fin 1 → Nat :=
  let v495 : Index := Scalar.indexCast v494
  ![v495.toNat]

def k0_chk22 (i : grid0.Coords) (v494 : BitVec 32) : Prop :=
  (∀ (k0_h1 : k0_cond1 i = 1#1), ∀ a, (k0_off45 v494) a + S1.size a ≤ S64.size a)
theorem k0_off45_inb : ∀ (i : grid0.Coords) (v494 : BitVec 32) (k0_hw22 : k0_chk22 i v494), ∀ (k0_h1 : k0_cond1 i = 1#1), ∀ a, (k0_off45 v494) a + S1.size a ≤ S64.size a := fun i v494 k0_hw22 k0_h1 => k0_hw22 k0_h1

def k0_off46 (i : grid0.Coords) : Fin 1 → Nat :=
  let arg0 : BitVec 32 := BitVec.ofNat 32 (i 0).val
  let c16_i32_302 : BitVec 32 := 16#32
  let v513 : BitVec 32 := Scalar.muli arg0 c16_i32_302
  let c11_i32 : BitVec 32 := 11#32
  let v514 : BitVec 32 := Scalar.addi v513 c11_i32
  let v515 : Index := Scalar.indexCast v514
  ![v515.toNat]
def k0_off47 (v516 : BitVec 32) : Fin 1 → Nat :=
  let v517 : Index := Scalar.indexCast v516
  ![v517.toNat]

def k0_chk23 (i : grid0.Coords) (v516 : BitVec 32) : Prop :=
  (∀ (k0_h1 : k0_cond1 i = 1#1), ∀ a, (k0_off47 v516) a + S1.size a ≤ S64.size a)
theorem k0_off47_inb : ∀ (i : grid0.Coords) (v516 : BitVec 32) (k0_hw23 : k0_chk23 i v516), ∀ (k0_h1 : k0_cond1 i = 1#1), ∀ a, (k0_off47 v516) a + S1.size a ≤ S64.size a := fun i v516 k0_hw23 k0_h1 => k0_hw23 k0_h1

def k0_off48 (i : grid0.Coords) : Fin 1 → Nat :=
  let arg0 : BitVec 32 := BitVec.ofNat 32 (i 0).val
  let c16_i32_303 : BitVec 32 := 16#32
  let v519 : BitVec 32 := Scalar.muli arg0 c16_i32_303
  let c11_i32_304 : BitVec 32 := 11#32
  let v520 : BitVec 32 := Scalar.addi v519 c11_i32_304
  let v521 : Index := Scalar.indexCast v520
  ![v521.toNat]
def k0_off49 (v522 : BitVec 32) : Fin 1 → Nat :=
  let v523 : Index := Scalar.indexCast v522
  ![v523.toNat]

def k0_chk24 (i : grid0.Coords) (v522 : BitVec 32) : Prop :=
  (∀ (k0_h1 : k0_cond1 i = 1#1), ∀ a, (k0_off49 v522) a + S1.size a ≤ S64.size a)
theorem k0_off49_inb : ∀ (i : grid0.Coords) (v522 : BitVec 32) (k0_hw24 : k0_chk24 i v522), ∀ (k0_h1 : k0_cond1 i = 1#1), ∀ a, (k0_off49 v522) a + S1.size a ≤ S64.size a := fun i v522 k0_hw24 k0_h1 => k0_hw24 k0_h1

def k0_off50 (i : grid0.Coords) : Fin 1 → Nat :=
  let arg0 : BitVec 32 := BitVec.ofNat 32 (i 0).val
  let c16_i32_310 : BitVec 32 := 16#32
  let v541 : BitVec 32 := Scalar.muli arg0 c16_i32_310
  let c12_i32 : BitVec 32 := 12#32
  let v542 : BitVec 32 := Scalar.addi v541 c12_i32
  let v543 : Index := Scalar.indexCast v542
  ![v543.toNat]
def k0_off51 (v544 : BitVec 32) : Fin 1 → Nat :=
  let v545 : Index := Scalar.indexCast v544
  ![v545.toNat]

def k0_chk25 (i : grid0.Coords) (v544 : BitVec 32) : Prop :=
  (∀ (k0_h1 : k0_cond1 i = 1#1), ∀ a, (k0_off51 v544) a + S1.size a ≤ S64.size a)
theorem k0_off51_inb : ∀ (i : grid0.Coords) (v544 : BitVec 32) (k0_hw25 : k0_chk25 i v544), ∀ (k0_h1 : k0_cond1 i = 1#1), ∀ a, (k0_off51 v544) a + S1.size a ≤ S64.size a := fun i v544 k0_hw25 k0_h1 => k0_hw25 k0_h1

def k0_off52 (i : grid0.Coords) : Fin 1 → Nat :=
  let arg0 : BitVec 32 := BitVec.ofNat 32 (i 0).val
  let c16_i32_311 : BitVec 32 := 16#32
  let v547 : BitVec 32 := Scalar.muli arg0 c16_i32_311
  let c12_i32_312 : BitVec 32 := 12#32
  let v548 : BitVec 32 := Scalar.addi v547 c12_i32_312
  let v549 : Index := Scalar.indexCast v548
  ![v549.toNat]
def k0_off53 (v550 : BitVec 32) : Fin 1 → Nat :=
  let v551 : Index := Scalar.indexCast v550
  ![v551.toNat]

def k0_chk26 (i : grid0.Coords) (v550 : BitVec 32) : Prop :=
  (∀ (k0_h1 : k0_cond1 i = 1#1), ∀ a, (k0_off53 v550) a + S1.size a ≤ S64.size a)
theorem k0_off53_inb : ∀ (i : grid0.Coords) (v550 : BitVec 32) (k0_hw26 : k0_chk26 i v550), ∀ (k0_h1 : k0_cond1 i = 1#1), ∀ a, (k0_off53 v550) a + S1.size a ≤ S64.size a := fun i v550 k0_hw26 k0_h1 => k0_hw26 k0_h1

def k0_off54 (i : grid0.Coords) : Fin 1 → Nat :=
  let arg0 : BitVec 32 := BitVec.ofNat 32 (i 0).val
  let c16_i32_318 : BitVec 32 := 16#32
  let v569 : BitVec 32 := Scalar.muli arg0 c16_i32_318
  let c13_i32 : BitVec 32 := 13#32
  let v570 : BitVec 32 := Scalar.addi v569 c13_i32
  let v571 : Index := Scalar.indexCast v570
  ![v571.toNat]
def k0_off55 (v572 : BitVec 32) : Fin 1 → Nat :=
  let v573 : Index := Scalar.indexCast v572
  ![v573.toNat]

def k0_chk27 (i : grid0.Coords) (v572 : BitVec 32) : Prop :=
  (∀ (k0_h1 : k0_cond1 i = 1#1), ∀ a, (k0_off55 v572) a + S1.size a ≤ S64.size a)
theorem k0_off55_inb : ∀ (i : grid0.Coords) (v572 : BitVec 32) (k0_hw27 : k0_chk27 i v572), ∀ (k0_h1 : k0_cond1 i = 1#1), ∀ a, (k0_off55 v572) a + S1.size a ≤ S64.size a := fun i v572 k0_hw27 k0_h1 => k0_hw27 k0_h1

def k0_off56 (i : grid0.Coords) : Fin 1 → Nat :=
  let arg0 : BitVec 32 := BitVec.ofNat 32 (i 0).val
  let c16_i32_319 : BitVec 32 := 16#32
  let v575 : BitVec 32 := Scalar.muli arg0 c16_i32_319
  let c13_i32_320 : BitVec 32 := 13#32
  let v576 : BitVec 32 := Scalar.addi v575 c13_i32_320
  let v577 : Index := Scalar.indexCast v576
  ![v577.toNat]
def k0_off57 (v578 : BitVec 32) : Fin 1 → Nat :=
  let v579 : Index := Scalar.indexCast v578
  ![v579.toNat]

def k0_chk28 (i : grid0.Coords) (v578 : BitVec 32) : Prop :=
  (∀ (k0_h1 : k0_cond1 i = 1#1), ∀ a, (k0_off57 v578) a + S1.size a ≤ S64.size a)
theorem k0_off57_inb : ∀ (i : grid0.Coords) (v578 : BitVec 32) (k0_hw28 : k0_chk28 i v578), ∀ (k0_h1 : k0_cond1 i = 1#1), ∀ a, (k0_off57 v578) a + S1.size a ≤ S64.size a := fun i v578 k0_hw28 k0_h1 => k0_hw28 k0_h1

def k0_off58 (i : grid0.Coords) : Fin 1 → Nat :=
  let arg0 : BitVec 32 := BitVec.ofNat 32 (i 0).val
  let c16_i32_326 : BitVec 32 := 16#32
  let v597 : BitVec 32 := Scalar.muli arg0 c16_i32_326
  let c14_i32 : BitVec 32 := 14#32
  let v598 : BitVec 32 := Scalar.addi v597 c14_i32
  let v599 : Index := Scalar.indexCast v598
  ![v599.toNat]
def k0_off59 (v600 : BitVec 32) : Fin 1 → Nat :=
  let v601 : Index := Scalar.indexCast v600
  ![v601.toNat]

def k0_chk29 (i : grid0.Coords) (v600 : BitVec 32) : Prop :=
  (∀ (k0_h1 : k0_cond1 i = 1#1), ∀ a, (k0_off59 v600) a + S1.size a ≤ S64.size a)
theorem k0_off59_inb : ∀ (i : grid0.Coords) (v600 : BitVec 32) (k0_hw29 : k0_chk29 i v600), ∀ (k0_h1 : k0_cond1 i = 1#1), ∀ a, (k0_off59 v600) a + S1.size a ≤ S64.size a := fun i v600 k0_hw29 k0_h1 => k0_hw29 k0_h1

def k0_off60 (i : grid0.Coords) : Fin 1 → Nat :=
  let arg0 : BitVec 32 := BitVec.ofNat 32 (i 0).val
  let c16_i32_327 : BitVec 32 := 16#32
  let v603 : BitVec 32 := Scalar.muli arg0 c16_i32_327
  let c14_i32_328 : BitVec 32 := 14#32
  let v604 : BitVec 32 := Scalar.addi v603 c14_i32_328
  let v605 : Index := Scalar.indexCast v604
  ![v605.toNat]
def k0_off61 (v606 : BitVec 32) : Fin 1 → Nat :=
  let v607 : Index := Scalar.indexCast v606
  ![v607.toNat]

def k0_chk30 (i : grid0.Coords) (v606 : BitVec 32) : Prop :=
  (∀ (k0_h1 : k0_cond1 i = 1#1), ∀ a, (k0_off61 v606) a + S1.size a ≤ S64.size a)
theorem k0_off61_inb : ∀ (i : grid0.Coords) (v606 : BitVec 32) (k0_hw30 : k0_chk30 i v606), ∀ (k0_h1 : k0_cond1 i = 1#1), ∀ a, (k0_off61 v606) a + S1.size a ≤ S64.size a := fun i v606 k0_hw30 k0_h1 => k0_hw30 k0_h1

def k0_off62 (i : grid0.Coords) : Fin 1 → Nat :=
  let arg0 : BitVec 32 := BitVec.ofNat 32 (i 0).val
  let c16_i32_334 : BitVec 32 := 16#32
  let v625 : BitVec 32 := Scalar.muli arg0 c16_i32_334
  let c15_i32 : BitVec 32 := 15#32
  let v626 : BitVec 32 := Scalar.addi v625 c15_i32
  let v627 : Index := Scalar.indexCast v626
  ![v627.toNat]
def k0_off63 (v628 : BitVec 32) : Fin 1 → Nat :=
  let v629 : Index := Scalar.indexCast v628
  ![v629.toNat]

def k0_chk31 (i : grid0.Coords) (v628 : BitVec 32) : Prop :=
  (∀ (k0_h1 : k0_cond1 i = 1#1), ∀ a, (k0_off63 v628) a + S1.size a ≤ S64.size a)
theorem k0_off63_inb : ∀ (i : grid0.Coords) (v628 : BitVec 32) (k0_hw31 : k0_chk31 i v628), ∀ (k0_h1 : k0_cond1 i = 1#1), ∀ a, (k0_off63 v628) a + S1.size a ≤ S64.size a := fun i v628 k0_hw31 k0_h1 => k0_hw31 k0_h1

def k0_off64 (i : grid0.Coords) : Fin 1 → Nat :=
  let arg0 : BitVec 32 := BitVec.ofNat 32 (i 0).val
  let c16_i32_335 : BitVec 32 := 16#32
  let v631 : BitVec 32 := Scalar.muli arg0 c16_i32_335
  let c15_i32_336 : BitVec 32 := 15#32
  let v632 : BitVec 32 := Scalar.addi v631 c15_i32_336
  let v633 : Index := Scalar.indexCast v632
  ![v633.toNat]
def k0_off65 (v634 : BitVec 32) : Fin 1 → Nat :=
  let v635 : Index := Scalar.indexCast v634
  ![v635.toNat]

def k0_chk32 (i : grid0.Coords) (v634 : BitVec 32) : Prop :=
  (∀ (k0_h1 : k0_cond1 i = 1#1), ∀ a, (k0_off65 v634) a + S1.size a ≤ S64.size a)
theorem k0_off65_inb : ∀ (i : grid0.Coords) (v634 : BitVec 32) (k0_hw32 : k0_chk32 i v634), ∀ (k0_h1 : k0_cond1 i = 1#1), ∀ a, (k0_off65 v634) a + S1.size a ≤ S64.size a := fun i v634 k0_hw32 k0_h1 => k0_hw32 k0_h1

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off66 (i : grid0.Coords) : Fin 1 → Nat :=
  let arg0 : BitVec 32 := BitVec.ofNat 32 (i 0).val
  let c16_i32 : BitVec 32 := 16#32
  let v253 : BitVec 32 := Scalar.muli arg0 c16_i32
  let c0_i32_370 : BitVec 32 := 0#32
  let v254 : BitVec 32 := Scalar.addi v253 c0_i32_370
  let v255 : Index := Scalar.indexCast v254
  ![v255.toNat]
def k0_off67 (v256 : BitVec 32) : Fin 1 → Nat :=
  let v257 : Index := Scalar.indexCast v256
  ![v257.toNat]

def k0_chk33 (i : grid0.Coords) (v256 : BitVec 32) : Prop :=
  (∀ (k0_h2 : k0_cond2 i = 1#1), ∀ a, (k0_off67 v256) a + S1.size a ≤ S64.size a)
theorem k0_off67_inb : ∀ (i : grid0.Coords) (v256 : BitVec 32) (k0_hw33 : k0_chk33 i v256), ∀ (k0_h2 : k0_cond2 i = 1#1), ∀ a, (k0_off67 v256) a + S1.size a ≤ S64.size a := fun i v256 k0_hw33 k0_h2 => k0_hw33 k0_h2

def k0_off68 (i : grid0.Coords) : Fin 1 → Nat :=
  let arg0 : BitVec 32 := BitVec.ofNat 32 (i 0).val
  let c16_i32_371 : BitVec 32 := 16#32
  let v259 : BitVec 32 := Scalar.muli arg0 c16_i32_371
  let c0_i32_372 : BitVec 32 := 0#32
  let v260 : BitVec 32 := Scalar.addi v259 c0_i32_372
  let v261 : Index := Scalar.indexCast v260
  ![v261.toNat]
def k0_off69 (v262 : BitVec 32) : Fin 1 → Nat :=
  let v263 : Index := Scalar.indexCast v262
  ![v263.toNat]

def k0_chk34 (i : grid0.Coords) (v262 : BitVec 32) : Prop :=
  (∀ (k0_h2 : k0_cond2 i = 1#1), ∀ a, (k0_off69 v262) a + S1.size a ≤ S64.size a)
theorem k0_off69_inb : ∀ (i : grid0.Coords) (v262 : BitVec 32) (k0_hw34 : k0_chk34 i v262), ∀ (k0_h2 : k0_cond2 i = 1#1), ∀ a, (k0_off69 v262) a + S1.size a ≤ S64.size a := fun i v262 k0_hw34 k0_h2 => k0_hw34 k0_h2

def k0_off70 (i : grid0.Coords) : Fin 1 → Nat :=
  let arg0 : BitVec 32 := BitVec.ofNat 32 (i 0).val
  let c16_i32_377 : BitVec 32 := 16#32
  let v281 : BitVec 32 := Scalar.muli arg0 c16_i32_377
  let c1_i32_378 : BitVec 32 := 1#32
  let v282 : BitVec 32 := Scalar.addi v281 c1_i32_378
  let v283 : Index := Scalar.indexCast v282
  ![v283.toNat]
def k0_off71 (v284 : BitVec 32) : Fin 1 → Nat :=
  let v285 : Index := Scalar.indexCast v284
  ![v285.toNat]

def k0_chk35 (i : grid0.Coords) (v284 : BitVec 32) : Prop :=
  (∀ (k0_h2 : k0_cond2 i = 1#1), ∀ a, (k0_off71 v284) a + S1.size a ≤ S64.size a)
theorem k0_off71_inb : ∀ (i : grid0.Coords) (v284 : BitVec 32) (k0_hw35 : k0_chk35 i v284), ∀ (k0_h2 : k0_cond2 i = 1#1), ∀ a, (k0_off71 v284) a + S1.size a ≤ S64.size a := fun i v284 k0_hw35 k0_h2 => k0_hw35 k0_h2

def k0_off72 (i : grid0.Coords) : Fin 1 → Nat :=
  let arg0 : BitVec 32 := BitVec.ofNat 32 (i 0).val
  let c16_i32_379 : BitVec 32 := 16#32
  let v287 : BitVec 32 := Scalar.muli arg0 c16_i32_379
  let c1_i32_380 : BitVec 32 := 1#32
  let v288 : BitVec 32 := Scalar.addi v287 c1_i32_380
  let v289 : Index := Scalar.indexCast v288
  ![v289.toNat]
def k0_off73 (v290 : BitVec 32) : Fin 1 → Nat :=
  let v291 : Index := Scalar.indexCast v290
  ![v291.toNat]

def k0_chk36 (i : grid0.Coords) (v290 : BitVec 32) : Prop :=
  (∀ (k0_h2 : k0_cond2 i = 1#1), ∀ a, (k0_off73 v290) a + S1.size a ≤ S64.size a)
theorem k0_off73_inb : ∀ (i : grid0.Coords) (v290 : BitVec 32) (k0_hw36 : k0_chk36 i v290), ∀ (k0_h2 : k0_cond2 i = 1#1), ∀ a, (k0_off73 v290) a + S1.size a ≤ S64.size a := fun i v290 k0_hw36 k0_h2 => k0_hw36 k0_h2

def k0_off74 (i : grid0.Coords) : Fin 1 → Nat :=
  let arg0 : BitVec 32 := BitVec.ofNat 32 (i 0).val
  let c16_i32_386 : BitVec 32 := 16#32
  let v309 : BitVec 32 := Scalar.muli arg0 c16_i32_386
  let c2_i32_387 : BitVec 32 := 2#32
  let v310 : BitVec 32 := Scalar.addi v309 c2_i32_387
  let v311 : Index := Scalar.indexCast v310
  ![v311.toNat]
def k0_off75 (v312 : BitVec 32) : Fin 1 → Nat :=
  let v313 : Index := Scalar.indexCast v312
  ![v313.toNat]

def k0_chk37 (i : grid0.Coords) (v312 : BitVec 32) : Prop :=
  (∀ (k0_h2 : k0_cond2 i = 1#1), ∀ a, (k0_off75 v312) a + S1.size a ≤ S64.size a)
theorem k0_off75_inb : ∀ (i : grid0.Coords) (v312 : BitVec 32) (k0_hw37 : k0_chk37 i v312), ∀ (k0_h2 : k0_cond2 i = 1#1), ∀ a, (k0_off75 v312) a + S1.size a ≤ S64.size a := fun i v312 k0_hw37 k0_h2 => k0_hw37 k0_h2

def k0_off76 (i : grid0.Coords) : Fin 1 → Nat :=
  let arg0 : BitVec 32 := BitVec.ofNat 32 (i 0).val
  let c16_i32_388 : BitVec 32 := 16#32
  let v315 : BitVec 32 := Scalar.muli arg0 c16_i32_388
  let c2_i32_389 : BitVec 32 := 2#32
  let v316 : BitVec 32 := Scalar.addi v315 c2_i32_389
  let v317 : Index := Scalar.indexCast v316
  ![v317.toNat]
def k0_off77 (v318 : BitVec 32) : Fin 1 → Nat :=
  let v319 : Index := Scalar.indexCast v318
  ![v319.toNat]

def k0_chk38 (i : grid0.Coords) (v318 : BitVec 32) : Prop :=
  (∀ (k0_h2 : k0_cond2 i = 1#1), ∀ a, (k0_off77 v318) a + S1.size a ≤ S64.size a)
theorem k0_off77_inb : ∀ (i : grid0.Coords) (v318 : BitVec 32) (k0_hw38 : k0_chk38 i v318), ∀ (k0_h2 : k0_cond2 i = 1#1), ∀ a, (k0_off77 v318) a + S1.size a ≤ S64.size a := fun i v318 k0_hw38 k0_h2 => k0_hw38 k0_h2

def k0_off78 (i : grid0.Coords) : Fin 1 → Nat :=
  let arg0 : BitVec 32 := BitVec.ofNat 32 (i 0).val
  let c16_i32_395 : BitVec 32 := 16#32
  let v337 : BitVec 32 := Scalar.muli arg0 c16_i32_395
  let c3_i32_396 : BitVec 32 := 3#32
  let v338 : BitVec 32 := Scalar.addi v337 c3_i32_396
  let v339 : Index := Scalar.indexCast v338
  ![v339.toNat]
def k0_off79 (v340 : BitVec 32) : Fin 1 → Nat :=
  let v341 : Index := Scalar.indexCast v340
  ![v341.toNat]

def k0_chk39 (i : grid0.Coords) (v340 : BitVec 32) : Prop :=
  (∀ (k0_h2 : k0_cond2 i = 1#1), ∀ a, (k0_off79 v340) a + S1.size a ≤ S64.size a)
theorem k0_off79_inb : ∀ (i : grid0.Coords) (v340 : BitVec 32) (k0_hw39 : k0_chk39 i v340), ∀ (k0_h2 : k0_cond2 i = 1#1), ∀ a, (k0_off79 v340) a + S1.size a ≤ S64.size a := fun i v340 k0_hw39 k0_h2 => k0_hw39 k0_h2

def k0_off80 (i : grid0.Coords) : Fin 1 → Nat :=
  let arg0 : BitVec 32 := BitVec.ofNat 32 (i 0).val
  let c16_i32_397 : BitVec 32 := 16#32
  let v343 : BitVec 32 := Scalar.muli arg0 c16_i32_397
  let c3_i32_398 : BitVec 32 := 3#32
  let v344 : BitVec 32 := Scalar.addi v343 c3_i32_398
  let v345 : Index := Scalar.indexCast v344
  ![v345.toNat]
def k0_off81 (v346 : BitVec 32) : Fin 1 → Nat :=
  let v347 : Index := Scalar.indexCast v346
  ![v347.toNat]

def k0_chk40 (i : grid0.Coords) (v346 : BitVec 32) : Prop :=
  (∀ (k0_h2 : k0_cond2 i = 1#1), ∀ a, (k0_off81 v346) a + S1.size a ≤ S64.size a)
theorem k0_off81_inb : ∀ (i : grid0.Coords) (v346 : BitVec 32) (k0_hw40 : k0_chk40 i v346), ∀ (k0_h2 : k0_cond2 i = 1#1), ∀ a, (k0_off81 v346) a + S1.size a ≤ S64.size a := fun i v346 k0_hw40 k0_h2 => k0_hw40 k0_h2

def k0_off82 (i : grid0.Coords) : Fin 1 → Nat :=
  let arg0 : BitVec 32 := BitVec.ofNat 32 (i 0).val
  let c16_i32_404 : BitVec 32 := 16#32
  let v365 : BitVec 32 := Scalar.muli arg0 c16_i32_404
  let c4_i32 : BitVec 32 := 4#32
  let v366 : BitVec 32 := Scalar.addi v365 c4_i32
  let v367 : Index := Scalar.indexCast v366
  ![v367.toNat]
def k0_off83 (v368 : BitVec 32) : Fin 1 → Nat :=
  let v369 : Index := Scalar.indexCast v368
  ![v369.toNat]

def k0_chk41 (i : grid0.Coords) (v368 : BitVec 32) : Prop :=
  (∀ (k0_h2 : k0_cond2 i = 1#1), ∀ a, (k0_off83 v368) a + S1.size a ≤ S64.size a)
theorem k0_off83_inb : ∀ (i : grid0.Coords) (v368 : BitVec 32) (k0_hw41 : k0_chk41 i v368), ∀ (k0_h2 : k0_cond2 i = 1#1), ∀ a, (k0_off83 v368) a + S1.size a ≤ S64.size a := fun i v368 k0_hw41 k0_h2 => k0_hw41 k0_h2

def k0_off84 (i : grid0.Coords) : Fin 1 → Nat :=
  let arg0 : BitVec 32 := BitVec.ofNat 32 (i 0).val
  let c16_i32_405 : BitVec 32 := 16#32
  let v371 : BitVec 32 := Scalar.muli arg0 c16_i32_405
  let c4_i32_406 : BitVec 32 := 4#32
  let v372 : BitVec 32 := Scalar.addi v371 c4_i32_406
  let v373 : Index := Scalar.indexCast v372
  ![v373.toNat]
def k0_off85 (v374 : BitVec 32) : Fin 1 → Nat :=
  let v375 : Index := Scalar.indexCast v374
  ![v375.toNat]

def k0_chk42 (i : grid0.Coords) (v374 : BitVec 32) : Prop :=
  (∀ (k0_h2 : k0_cond2 i = 1#1), ∀ a, (k0_off85 v374) a + S1.size a ≤ S64.size a)
theorem k0_off85_inb : ∀ (i : grid0.Coords) (v374 : BitVec 32) (k0_hw42 : k0_chk42 i v374), ∀ (k0_h2 : k0_cond2 i = 1#1), ∀ a, (k0_off85 v374) a + S1.size a ≤ S64.size a := fun i v374 k0_hw42 k0_h2 => k0_hw42 k0_h2

def k0_off86 (i : grid0.Coords) : Fin 1 → Nat :=
  let arg0 : BitVec 32 := BitVec.ofNat 32 (i 0).val
  let c16_i32_412 : BitVec 32 := 16#32
  let v393 : BitVec 32 := Scalar.muli arg0 c16_i32_412
  let c5_i32 : BitVec 32 := 5#32
  let v394 : BitVec 32 := Scalar.addi v393 c5_i32
  let v395 : Index := Scalar.indexCast v394
  ![v395.toNat]
def k0_off87 (v396 : BitVec 32) : Fin 1 → Nat :=
  let v397 : Index := Scalar.indexCast v396
  ![v397.toNat]

def k0_chk43 (i : grid0.Coords) (v396 : BitVec 32) : Prop :=
  (∀ (k0_h2 : k0_cond2 i = 1#1), ∀ a, (k0_off87 v396) a + S1.size a ≤ S64.size a)
theorem k0_off87_inb : ∀ (i : grid0.Coords) (v396 : BitVec 32) (k0_hw43 : k0_chk43 i v396), ∀ (k0_h2 : k0_cond2 i = 1#1), ∀ a, (k0_off87 v396) a + S1.size a ≤ S64.size a := fun i v396 k0_hw43 k0_h2 => k0_hw43 k0_h2

def k0_off88 (i : grid0.Coords) : Fin 1 → Nat :=
  let arg0 : BitVec 32 := BitVec.ofNat 32 (i 0).val
  let c16_i32_413 : BitVec 32 := 16#32
  let v399 : BitVec 32 := Scalar.muli arg0 c16_i32_413
  let c5_i32_414 : BitVec 32 := 5#32
  let v400 : BitVec 32 := Scalar.addi v399 c5_i32_414
  let v401 : Index := Scalar.indexCast v400
  ![v401.toNat]
def k0_off89 (v402 : BitVec 32) : Fin 1 → Nat :=
  let v403 : Index := Scalar.indexCast v402
  ![v403.toNat]

def k0_chk44 (i : grid0.Coords) (v402 : BitVec 32) : Prop :=
  (∀ (k0_h2 : k0_cond2 i = 1#1), ∀ a, (k0_off89 v402) a + S1.size a ≤ S64.size a)
theorem k0_off89_inb : ∀ (i : grid0.Coords) (v402 : BitVec 32) (k0_hw44 : k0_chk44 i v402), ∀ (k0_h2 : k0_cond2 i = 1#1), ∀ a, (k0_off89 v402) a + S1.size a ≤ S64.size a := fun i v402 k0_hw44 k0_h2 => k0_hw44 k0_h2

def k0_off90 (i : grid0.Coords) : Fin 1 → Nat :=
  let arg0 : BitVec 32 := BitVec.ofNat 32 (i 0).val
  let c16_i32_420 : BitVec 32 := 16#32
  let v421 : BitVec 32 := Scalar.muli arg0 c16_i32_420
  let c6_i32 : BitVec 32 := 6#32
  let v422 : BitVec 32 := Scalar.addi v421 c6_i32
  let v423 : Index := Scalar.indexCast v422
  ![v423.toNat]
def k0_off91 (v424 : BitVec 32) : Fin 1 → Nat :=
  let v425 : Index := Scalar.indexCast v424
  ![v425.toNat]

def k0_chk45 (i : grid0.Coords) (v424 : BitVec 32) : Prop :=
  (∀ (k0_h2 : k0_cond2 i = 1#1), ∀ a, (k0_off91 v424) a + S1.size a ≤ S64.size a)
theorem k0_off91_inb : ∀ (i : grid0.Coords) (v424 : BitVec 32) (k0_hw45 : k0_chk45 i v424), ∀ (k0_h2 : k0_cond2 i = 1#1), ∀ a, (k0_off91 v424) a + S1.size a ≤ S64.size a := fun i v424 k0_hw45 k0_h2 => k0_hw45 k0_h2

def k0_off92 (i : grid0.Coords) : Fin 1 → Nat :=
  let arg0 : BitVec 32 := BitVec.ofNat 32 (i 0).val
  let c16_i32_421 : BitVec 32 := 16#32
  let v427 : BitVec 32 := Scalar.muli arg0 c16_i32_421
  let c6_i32_422 : BitVec 32 := 6#32
  let v428 : BitVec 32 := Scalar.addi v427 c6_i32_422
  let v429 : Index := Scalar.indexCast v428
  ![v429.toNat]
def k0_off93 (v430 : BitVec 32) : Fin 1 → Nat :=
  let v431 : Index := Scalar.indexCast v430
  ![v431.toNat]

def k0_chk46 (i : grid0.Coords) (v430 : BitVec 32) : Prop :=
  (∀ (k0_h2 : k0_cond2 i = 1#1), ∀ a, (k0_off93 v430) a + S1.size a ≤ S64.size a)
theorem k0_off93_inb : ∀ (i : grid0.Coords) (v430 : BitVec 32) (k0_hw46 : k0_chk46 i v430), ∀ (k0_h2 : k0_cond2 i = 1#1), ∀ a, (k0_off93 v430) a + S1.size a ≤ S64.size a := fun i v430 k0_hw46 k0_h2 => k0_hw46 k0_h2

def k0_off94 (i : grid0.Coords) : Fin 1 → Nat :=
  let arg0 : BitVec 32 := BitVec.ofNat 32 (i 0).val
  let c16_i32_428 : BitVec 32 := 16#32
  let v449 : BitVec 32 := Scalar.muli arg0 c16_i32_428
  let c7_i32 : BitVec 32 := 7#32
  let v450 : BitVec 32 := Scalar.addi v449 c7_i32
  let v451 : Index := Scalar.indexCast v450
  ![v451.toNat]
def k0_off95 (v452 : BitVec 32) : Fin 1 → Nat :=
  let v453 : Index := Scalar.indexCast v452
  ![v453.toNat]

def k0_chk47 (i : grid0.Coords) (v452 : BitVec 32) : Prop :=
  (∀ (k0_h2 : k0_cond2 i = 1#1), ∀ a, (k0_off95 v452) a + S1.size a ≤ S64.size a)
theorem k0_off95_inb : ∀ (i : grid0.Coords) (v452 : BitVec 32) (k0_hw47 : k0_chk47 i v452), ∀ (k0_h2 : k0_cond2 i = 1#1), ∀ a, (k0_off95 v452) a + S1.size a ≤ S64.size a := fun i v452 k0_hw47 k0_h2 => k0_hw47 k0_h2

def k0_off96 (i : grid0.Coords) : Fin 1 → Nat :=
  let arg0 : BitVec 32 := BitVec.ofNat 32 (i 0).val
  let c16_i32_429 : BitVec 32 := 16#32
  let v455 : BitVec 32 := Scalar.muli arg0 c16_i32_429
  let c7_i32_430 : BitVec 32 := 7#32
  let v456 : BitVec 32 := Scalar.addi v455 c7_i32_430
  let v457 : Index := Scalar.indexCast v456
  ![v457.toNat]
def k0_off97 (v458 : BitVec 32) : Fin 1 → Nat :=
  let v459 : Index := Scalar.indexCast v458
  ![v459.toNat]

def k0_chk48 (i : grid0.Coords) (v458 : BitVec 32) : Prop :=
  (∀ (k0_h2 : k0_cond2 i = 1#1), ∀ a, (k0_off97 v458) a + S1.size a ≤ S64.size a)
theorem k0_off97_inb : ∀ (i : grid0.Coords) (v458 : BitVec 32) (k0_hw48 : k0_chk48 i v458), ∀ (k0_h2 : k0_cond2 i = 1#1), ∀ a, (k0_off97 v458) a + S1.size a ≤ S64.size a := fun i v458 k0_hw48 k0_h2 => k0_hw48 k0_h2

def k0_off98 (i : grid0.Coords) : Fin 1 → Nat :=
  let arg0 : BitVec 32 := BitVec.ofNat 32 (i 0).val
  let c16_i32_436 : BitVec 32 := 16#32
  let v477 : BitVec 32 := Scalar.muli arg0 c16_i32_436
  let c8_i32 : BitVec 32 := 8#32
  let v478 : BitVec 32 := Scalar.addi v477 c8_i32
  let v479 : Index := Scalar.indexCast v478
  ![v479.toNat]
def k0_off99 (v480 : BitVec 32) : Fin 1 → Nat :=
  let v481 : Index := Scalar.indexCast v480
  ![v481.toNat]

def k0_chk49 (i : grid0.Coords) (v480 : BitVec 32) : Prop :=
  (∀ (k0_h2 : k0_cond2 i = 1#1), ∀ a, (k0_off99 v480) a + S1.size a ≤ S64.size a)
theorem k0_off99_inb : ∀ (i : grid0.Coords) (v480 : BitVec 32) (k0_hw49 : k0_chk49 i v480), ∀ (k0_h2 : k0_cond2 i = 1#1), ∀ a, (k0_off99 v480) a + S1.size a ≤ S64.size a := fun i v480 k0_hw49 k0_h2 => k0_hw49 k0_h2

def k0_off100 (i : grid0.Coords) : Fin 1 → Nat :=
  let arg0 : BitVec 32 := BitVec.ofNat 32 (i 0).val
  let c16_i32_437 : BitVec 32 := 16#32
  let v483 : BitVec 32 := Scalar.muli arg0 c16_i32_437
  let c8_i32_438 : BitVec 32 := 8#32
  let v484 : BitVec 32 := Scalar.addi v483 c8_i32_438
  let v485 : Index := Scalar.indexCast v484
  ![v485.toNat]
def k0_off101 (v486 : BitVec 32) : Fin 1 → Nat :=
  let v487 : Index := Scalar.indexCast v486
  ![v487.toNat]

def k0_chk50 (i : grid0.Coords) (v486 : BitVec 32) : Prop :=
  (∀ (k0_h2 : k0_cond2 i = 1#1), ∀ a, (k0_off101 v486) a + S1.size a ≤ S64.size a)
theorem k0_off101_inb : ∀ (i : grid0.Coords) (v486 : BitVec 32) (k0_hw50 : k0_chk50 i v486), ∀ (k0_h2 : k0_cond2 i = 1#1), ∀ a, (k0_off101 v486) a + S1.size a ≤ S64.size a := fun i v486 k0_hw50 k0_h2 => k0_hw50 k0_h2

def k0_off102 (i : grid0.Coords) : Fin 1 → Nat :=
  let arg0 : BitVec 32 := BitVec.ofNat 32 (i 0).val
  let c16_i32_444 : BitVec 32 := 16#32
  let v505 : BitVec 32 := Scalar.muli arg0 c16_i32_444
  let c9_i32 : BitVec 32 := 9#32
  let v506 : BitVec 32 := Scalar.addi v505 c9_i32
  let v507 : Index := Scalar.indexCast v506
  ![v507.toNat]
def k0_off103 (v508 : BitVec 32) : Fin 1 → Nat :=
  let v509 : Index := Scalar.indexCast v508
  ![v509.toNat]

def k0_chk51 (i : grid0.Coords) (v508 : BitVec 32) : Prop :=
  (∀ (k0_h2 : k0_cond2 i = 1#1), ∀ a, (k0_off103 v508) a + S1.size a ≤ S64.size a)
theorem k0_off103_inb : ∀ (i : grid0.Coords) (v508 : BitVec 32) (k0_hw51 : k0_chk51 i v508), ∀ (k0_h2 : k0_cond2 i = 1#1), ∀ a, (k0_off103 v508) a + S1.size a ≤ S64.size a := fun i v508 k0_hw51 k0_h2 => k0_hw51 k0_h2

def k0_off104 (i : grid0.Coords) : Fin 1 → Nat :=
  let arg0 : BitVec 32 := BitVec.ofNat 32 (i 0).val
  let c16_i32_445 : BitVec 32 := 16#32
  let v511 : BitVec 32 := Scalar.muli arg0 c16_i32_445
  let c9_i32_446 : BitVec 32 := 9#32
  let v512 : BitVec 32 := Scalar.addi v511 c9_i32_446
  let v513 : Index := Scalar.indexCast v512
  ![v513.toNat]
def k0_off105 (v514 : BitVec 32) : Fin 1 → Nat :=
  let v515 : Index := Scalar.indexCast v514
  ![v515.toNat]

def k0_chk52 (i : grid0.Coords) (v514 : BitVec 32) : Prop :=
  (∀ (k0_h2 : k0_cond2 i = 1#1), ∀ a, (k0_off105 v514) a + S1.size a ≤ S64.size a)
theorem k0_off105_inb : ∀ (i : grid0.Coords) (v514 : BitVec 32) (k0_hw52 : k0_chk52 i v514), ∀ (k0_h2 : k0_cond2 i = 1#1), ∀ a, (k0_off105 v514) a + S1.size a ≤ S64.size a := fun i v514 k0_hw52 k0_h2 => k0_hw52 k0_h2

def k0_off106 (i : grid0.Coords) : Fin 1 → Nat :=
  let arg0 : BitVec 32 := BitVec.ofNat 32 (i 0).val
  let c16_i32_452 : BitVec 32 := 16#32
  let v533 : BitVec 32 := Scalar.muli arg0 c16_i32_452
  let c10_i32 : BitVec 32 := 10#32
  let v534 : BitVec 32 := Scalar.addi v533 c10_i32
  let v535 : Index := Scalar.indexCast v534
  ![v535.toNat]
def k0_off107 (v536 : BitVec 32) : Fin 1 → Nat :=
  let v537 : Index := Scalar.indexCast v536
  ![v537.toNat]

def k0_chk53 (i : grid0.Coords) (v536 : BitVec 32) : Prop :=
  (∀ (k0_h2 : k0_cond2 i = 1#1), ∀ a, (k0_off107 v536) a + S1.size a ≤ S64.size a)
theorem k0_off107_inb : ∀ (i : grid0.Coords) (v536 : BitVec 32) (k0_hw53 : k0_chk53 i v536), ∀ (k0_h2 : k0_cond2 i = 1#1), ∀ a, (k0_off107 v536) a + S1.size a ≤ S64.size a := fun i v536 k0_hw53 k0_h2 => k0_hw53 k0_h2

def k0_off108 (i : grid0.Coords) : Fin 1 → Nat :=
  let arg0 : BitVec 32 := BitVec.ofNat 32 (i 0).val
  let c16_i32_453 : BitVec 32 := 16#32
  let v539 : BitVec 32 := Scalar.muli arg0 c16_i32_453
  let c10_i32_454 : BitVec 32 := 10#32
  let v540 : BitVec 32 := Scalar.addi v539 c10_i32_454
  let v541 : Index := Scalar.indexCast v540
  ![v541.toNat]
def k0_off109 (v542 : BitVec 32) : Fin 1 → Nat :=
  let v543 : Index := Scalar.indexCast v542
  ![v543.toNat]

def k0_chk54 (i : grid0.Coords) (v542 : BitVec 32) : Prop :=
  (∀ (k0_h2 : k0_cond2 i = 1#1), ∀ a, (k0_off109 v542) a + S1.size a ≤ S64.size a)
theorem k0_off109_inb : ∀ (i : grid0.Coords) (v542 : BitVec 32) (k0_hw54 : k0_chk54 i v542), ∀ (k0_h2 : k0_cond2 i = 1#1), ∀ a, (k0_off109 v542) a + S1.size a ≤ S64.size a := fun i v542 k0_hw54 k0_h2 => k0_hw54 k0_h2

def k0_off110 (i : grid0.Coords) : Fin 1 → Nat :=
  let arg0 : BitVec 32 := BitVec.ofNat 32 (i 0).val
  let c16_i32_460 : BitVec 32 := 16#32
  let v561 : BitVec 32 := Scalar.muli arg0 c16_i32_460
  let c11_i32 : BitVec 32 := 11#32
  let v562 : BitVec 32 := Scalar.addi v561 c11_i32
  let v563 : Index := Scalar.indexCast v562
  ![v563.toNat]
def k0_off111 (v564 : BitVec 32) : Fin 1 → Nat :=
  let v565 : Index := Scalar.indexCast v564
  ![v565.toNat]

def k0_chk55 (i : grid0.Coords) (v564 : BitVec 32) : Prop :=
  (∀ (k0_h2 : k0_cond2 i = 1#1), ∀ a, (k0_off111 v564) a + S1.size a ≤ S64.size a)
theorem k0_off111_inb : ∀ (i : grid0.Coords) (v564 : BitVec 32) (k0_hw55 : k0_chk55 i v564), ∀ (k0_h2 : k0_cond2 i = 1#1), ∀ a, (k0_off111 v564) a + S1.size a ≤ S64.size a := fun i v564 k0_hw55 k0_h2 => k0_hw55 k0_h2

def k0_off112 (i : grid0.Coords) : Fin 1 → Nat :=
  let arg0 : BitVec 32 := BitVec.ofNat 32 (i 0).val
  let c16_i32_461 : BitVec 32 := 16#32
  let v567 : BitVec 32 := Scalar.muli arg0 c16_i32_461
  let c11_i32_462 : BitVec 32 := 11#32
  let v568 : BitVec 32 := Scalar.addi v567 c11_i32_462
  let v569 : Index := Scalar.indexCast v568
  ![v569.toNat]
def k0_off113 (v570 : BitVec 32) : Fin 1 → Nat :=
  let v571 : Index := Scalar.indexCast v570
  ![v571.toNat]

def k0_chk56 (i : grid0.Coords) (v570 : BitVec 32) : Prop :=
  (∀ (k0_h2 : k0_cond2 i = 1#1), ∀ a, (k0_off113 v570) a + S1.size a ≤ S64.size a)
theorem k0_off113_inb : ∀ (i : grid0.Coords) (v570 : BitVec 32) (k0_hw56 : k0_chk56 i v570), ∀ (k0_h2 : k0_cond2 i = 1#1), ∀ a, (k0_off113 v570) a + S1.size a ≤ S64.size a := fun i v570 k0_hw56 k0_h2 => k0_hw56 k0_h2

def k0_off114 (i : grid0.Coords) : Fin 1 → Nat :=
  let arg0 : BitVec 32 := BitVec.ofNat 32 (i 0).val
  let c16_i32_468 : BitVec 32 := 16#32
  let v589 : BitVec 32 := Scalar.muli arg0 c16_i32_468
  let c12_i32 : BitVec 32 := 12#32
  let v590 : BitVec 32 := Scalar.addi v589 c12_i32
  let v591 : Index := Scalar.indexCast v590
  ![v591.toNat]
def k0_off115 (v592 : BitVec 32) : Fin 1 → Nat :=
  let v593 : Index := Scalar.indexCast v592
  ![v593.toNat]

def k0_chk57 (i : grid0.Coords) (v592 : BitVec 32) : Prop :=
  (∀ (k0_h2 : k0_cond2 i = 1#1), ∀ a, (k0_off115 v592) a + S1.size a ≤ S64.size a)
theorem k0_off115_inb : ∀ (i : grid0.Coords) (v592 : BitVec 32) (k0_hw57 : k0_chk57 i v592), ∀ (k0_h2 : k0_cond2 i = 1#1), ∀ a, (k0_off115 v592) a + S1.size a ≤ S64.size a := fun i v592 k0_hw57 k0_h2 => k0_hw57 k0_h2

def k0_off116 (i : grid0.Coords) : Fin 1 → Nat :=
  let arg0 : BitVec 32 := BitVec.ofNat 32 (i 0).val
  let c16_i32_469 : BitVec 32 := 16#32
  let v595 : BitVec 32 := Scalar.muli arg0 c16_i32_469
  let c12_i32_470 : BitVec 32 := 12#32
  let v596 : BitVec 32 := Scalar.addi v595 c12_i32_470
  let v597 : Index := Scalar.indexCast v596
  ![v597.toNat]
def k0_off117 (v598 : BitVec 32) : Fin 1 → Nat :=
  let v599 : Index := Scalar.indexCast v598
  ![v599.toNat]

def k0_chk58 (i : grid0.Coords) (v598 : BitVec 32) : Prop :=
  (∀ (k0_h2 : k0_cond2 i = 1#1), ∀ a, (k0_off117 v598) a + S1.size a ≤ S64.size a)
theorem k0_off117_inb : ∀ (i : grid0.Coords) (v598 : BitVec 32) (k0_hw58 : k0_chk58 i v598), ∀ (k0_h2 : k0_cond2 i = 1#1), ∀ a, (k0_off117 v598) a + S1.size a ≤ S64.size a := fun i v598 k0_hw58 k0_h2 => k0_hw58 k0_h2

def k0_off118 (i : grid0.Coords) : Fin 1 → Nat :=
  let arg0 : BitVec 32 := BitVec.ofNat 32 (i 0).val
  let c16_i32_476 : BitVec 32 := 16#32
  let v617 : BitVec 32 := Scalar.muli arg0 c16_i32_476
  let c13_i32 : BitVec 32 := 13#32
  let v618 : BitVec 32 := Scalar.addi v617 c13_i32
  let v619 : Index := Scalar.indexCast v618
  ![v619.toNat]
def k0_off119 (v620 : BitVec 32) : Fin 1 → Nat :=
  let v621 : Index := Scalar.indexCast v620
  ![v621.toNat]

def k0_chk59 (i : grid0.Coords) (v620 : BitVec 32) : Prop :=
  (∀ (k0_h2 : k0_cond2 i = 1#1), ∀ a, (k0_off119 v620) a + S1.size a ≤ S64.size a)
theorem k0_off119_inb : ∀ (i : grid0.Coords) (v620 : BitVec 32) (k0_hw59 : k0_chk59 i v620), ∀ (k0_h2 : k0_cond2 i = 1#1), ∀ a, (k0_off119 v620) a + S1.size a ≤ S64.size a := fun i v620 k0_hw59 k0_h2 => k0_hw59 k0_h2

def k0_off120 (i : grid0.Coords) : Fin 1 → Nat :=
  let arg0 : BitVec 32 := BitVec.ofNat 32 (i 0).val
  let c16_i32_477 : BitVec 32 := 16#32
  let v623 : BitVec 32 := Scalar.muli arg0 c16_i32_477
  let c13_i32_478 : BitVec 32 := 13#32
  let v624 : BitVec 32 := Scalar.addi v623 c13_i32_478
  let v625 : Index := Scalar.indexCast v624
  ![v625.toNat]
def k0_off121 (v626 : BitVec 32) : Fin 1 → Nat :=
  let v627 : Index := Scalar.indexCast v626
  ![v627.toNat]

def k0_chk60 (i : grid0.Coords) (v626 : BitVec 32) : Prop :=
  (∀ (k0_h2 : k0_cond2 i = 1#1), ∀ a, (k0_off121 v626) a + S1.size a ≤ S64.size a)
theorem k0_off121_inb : ∀ (i : grid0.Coords) (v626 : BitVec 32) (k0_hw60 : k0_chk60 i v626), ∀ (k0_h2 : k0_cond2 i = 1#1), ∀ a, (k0_off121 v626) a + S1.size a ≤ S64.size a := fun i v626 k0_hw60 k0_h2 => k0_hw60 k0_h2

def k0_off122 (i : grid0.Coords) : Fin 1 → Nat :=
  let arg0 : BitVec 32 := BitVec.ofNat 32 (i 0).val
  let c16_i32_484 : BitVec 32 := 16#32
  let v645 : BitVec 32 := Scalar.muli arg0 c16_i32_484
  let c14_i32 : BitVec 32 := 14#32
  let v646 : BitVec 32 := Scalar.addi v645 c14_i32
  let v647 : Index := Scalar.indexCast v646
  ![v647.toNat]
def k0_off123 (v648 : BitVec 32) : Fin 1 → Nat :=
  let v649 : Index := Scalar.indexCast v648
  ![v649.toNat]

def k0_chk61 (i : grid0.Coords) (v648 : BitVec 32) : Prop :=
  (∀ (k0_h2 : k0_cond2 i = 1#1), ∀ a, (k0_off123 v648) a + S1.size a ≤ S64.size a)
theorem k0_off123_inb : ∀ (i : grid0.Coords) (v648 : BitVec 32) (k0_hw61 : k0_chk61 i v648), ∀ (k0_h2 : k0_cond2 i = 1#1), ∀ a, (k0_off123 v648) a + S1.size a ≤ S64.size a := fun i v648 k0_hw61 k0_h2 => k0_hw61 k0_h2

def k0_off124 (i : grid0.Coords) : Fin 1 → Nat :=
  let arg0 : BitVec 32 := BitVec.ofNat 32 (i 0).val
  let c16_i32_485 : BitVec 32 := 16#32
  let v651 : BitVec 32 := Scalar.muli arg0 c16_i32_485
  let c14_i32_486 : BitVec 32 := 14#32
  let v652 : BitVec 32 := Scalar.addi v651 c14_i32_486
  let v653 : Index := Scalar.indexCast v652
  ![v653.toNat]
def k0_off125 (v654 : BitVec 32) : Fin 1 → Nat :=
  let v655 : Index := Scalar.indexCast v654
  ![v655.toNat]

def k0_chk62 (i : grid0.Coords) (v654 : BitVec 32) : Prop :=
  (∀ (k0_h2 : k0_cond2 i = 1#1), ∀ a, (k0_off125 v654) a + S1.size a ≤ S64.size a)
theorem k0_off125_inb : ∀ (i : grid0.Coords) (v654 : BitVec 32) (k0_hw62 : k0_chk62 i v654), ∀ (k0_h2 : k0_cond2 i = 1#1), ∀ a, (k0_off125 v654) a + S1.size a ≤ S64.size a := fun i v654 k0_hw62 k0_h2 => k0_hw62 k0_h2

def k0_off126 (i : grid0.Coords) : Fin 1 → Nat :=
  let arg0 : BitVec 32 := BitVec.ofNat 32 (i 0).val
  let c16_i32_492 : BitVec 32 := 16#32
  let v673 : BitVec 32 := Scalar.muli arg0 c16_i32_492
  let c15_i32 : BitVec 32 := 15#32
  let v674 : BitVec 32 := Scalar.addi v673 c15_i32
  let v675 : Index := Scalar.indexCast v674
  ![v675.toNat]
def k0_off127 (v676 : BitVec 32) : Fin 1 → Nat :=
  let v677 : Index := Scalar.indexCast v676
  ![v677.toNat]

def k0_chk63 (i : grid0.Coords) (v676 : BitVec 32) : Prop :=
  (∀ (k0_h2 : k0_cond2 i = 1#1), ∀ a, (k0_off127 v676) a + S1.size a ≤ S64.size a)
theorem k0_off127_inb : ∀ (i : grid0.Coords) (v676 : BitVec 32) (k0_hw63 : k0_chk63 i v676), ∀ (k0_h2 : k0_cond2 i = 1#1), ∀ a, (k0_off127 v676) a + S1.size a ≤ S64.size a := fun i v676 k0_hw63 k0_h2 => k0_hw63 k0_h2

def k0_off128 (i : grid0.Coords) : Fin 1 → Nat :=
  let arg0 : BitVec 32 := BitVec.ofNat 32 (i 0).val
  let c16_i32_493 : BitVec 32 := 16#32
  let v679 : BitVec 32 := Scalar.muli arg0 c16_i32_493
  let c15_i32_494 : BitVec 32 := 15#32
  let v680 : BitVec 32 := Scalar.addi v679 c15_i32_494
  let v681 : Index := Scalar.indexCast v680
  ![v681.toNat]
def k0_off129 (v682 : BitVec 32) : Fin 1 → Nat :=
  let v683 : Index := Scalar.indexCast v682
  ![v683.toNat]

def k0_chk64 (i : grid0.Coords) (v682 : BitVec 32) : Prop :=
  (∀ (k0_h2 : k0_cond2 i = 1#1), ∀ a, (k0_off129 v682) a + S1.size a ≤ S64.size a)
theorem k0_off129_inb : ∀ (i : grid0.Coords) (v682 : BitVec 32) (k0_hw64 : k0_chk64 i v682), ∀ (k0_h2 : k0_cond2 i = 1#1), ∀ a, (k0_off129 v682) a + S1.size a ≤ S64.size a := fun i v682 k0_hw64 k0_h2 => k0_hw64 k0_h2

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off130 (i : grid0.Coords) : Fin 1 → Nat :=
  let arg0 : BitVec 32 := BitVec.ofNat 32 (i 0).val
  let c16_i32 : BitVec 32 := 16#32
  let v205 : BitVec 32 := Scalar.muli arg0 c16_i32
  let c0_i32_211 : BitVec 32 := 0#32
  let v206 : BitVec 32 := Scalar.addi v205 c0_i32_211
  let v207 : Index := Scalar.indexCast v206
  ![v207.toNat]
def k0_off131 (v208 : BitVec 32) : Fin 1 → Nat :=
  let v209 : Index := Scalar.indexCast v208
  ![v209.toNat]

def k0_chk65 (i : grid0.Coords) (v208 : BitVec 32) : Prop :=
  (∀ (k0_h3 : k0_cond3 i = 1#1), ∀ a, (k0_off131 v208) a + S1.size a ≤ S64.size a)
theorem k0_off131_inb : ∀ (i : grid0.Coords) (v208 : BitVec 32) (k0_hw65 : k0_chk65 i v208), ∀ (k0_h3 : k0_cond3 i = 1#1), ∀ a, (k0_off131 v208) a + S1.size a ≤ S64.size a := fun i v208 k0_hw65 k0_h3 => k0_hw65 k0_h3

def k0_off132 (i : grid0.Coords) : Fin 1 → Nat :=
  let arg0 : BitVec 32 := BitVec.ofNat 32 (i 0).val
  let c16_i32_212 : BitVec 32 := 16#32
  let v211 : BitVec 32 := Scalar.muli arg0 c16_i32_212
  let c0_i32_213 : BitVec 32 := 0#32
  let v212 : BitVec 32 := Scalar.addi v211 c0_i32_213
  let v213 : Index := Scalar.indexCast v212
  ![v213.toNat]
def k0_off133 (v214 : BitVec 32) : Fin 1 → Nat :=
  let v215 : Index := Scalar.indexCast v214
  ![v215.toNat]

def k0_chk66 (i : grid0.Coords) (v214 : BitVec 32) : Prop :=
  (∀ (k0_h3 : k0_cond3 i = 1#1), ∀ a, (k0_off133 v214) a + S1.size a ≤ S64.size a)
theorem k0_off133_inb : ∀ (i : grid0.Coords) (v214 : BitVec 32) (k0_hw66 : k0_chk66 i v214), ∀ (k0_h3 : k0_cond3 i = 1#1), ∀ a, (k0_off133 v214) a + S1.size a ≤ S64.size a := fun i v214 k0_hw66 k0_h3 => k0_hw66 k0_h3

def k0_off134 (i : grid0.Coords) : Fin 1 → Nat :=
  let arg0 : BitVec 32 := BitVec.ofNat 32 (i 0).val
  let c16_i32_219 : BitVec 32 := 16#32
  let v233 : BitVec 32 := Scalar.muli arg0 c16_i32_219
  let c1_i32_220 : BitVec 32 := 1#32
  let v234 : BitVec 32 := Scalar.addi v233 c1_i32_220
  let v235 : Index := Scalar.indexCast v234
  ![v235.toNat]
def k0_off135 (v236 : BitVec 32) : Fin 1 → Nat :=
  let v237 : Index := Scalar.indexCast v236
  ![v237.toNat]

def k0_chk67 (i : grid0.Coords) (v236 : BitVec 32) : Prop :=
  (∀ (k0_h3 : k0_cond3 i = 1#1), ∀ a, (k0_off135 v236) a + S1.size a ≤ S64.size a)
theorem k0_off135_inb : ∀ (i : grid0.Coords) (v236 : BitVec 32) (k0_hw67 : k0_chk67 i v236), ∀ (k0_h3 : k0_cond3 i = 1#1), ∀ a, (k0_off135 v236) a + S1.size a ≤ S64.size a := fun i v236 k0_hw67 k0_h3 => k0_hw67 k0_h3

def k0_off136 (i : grid0.Coords) : Fin 1 → Nat :=
  let arg0 : BitVec 32 := BitVec.ofNat 32 (i 0).val
  let c16_i32_221 : BitVec 32 := 16#32
  let v239 : BitVec 32 := Scalar.muli arg0 c16_i32_221
  let c1_i32_222 : BitVec 32 := 1#32
  let v240 : BitVec 32 := Scalar.addi v239 c1_i32_222
  let v241 : Index := Scalar.indexCast v240
  ![v241.toNat]
def k0_off137 (v242 : BitVec 32) : Fin 1 → Nat :=
  let v243 : Index := Scalar.indexCast v242
  ![v243.toNat]

def k0_chk68 (i : grid0.Coords) (v242 : BitVec 32) : Prop :=
  (∀ (k0_h3 : k0_cond3 i = 1#1), ∀ a, (k0_off137 v242) a + S1.size a ≤ S64.size a)
theorem k0_off137_inb : ∀ (i : grid0.Coords) (v242 : BitVec 32) (k0_hw68 : k0_chk68 i v242), ∀ (k0_h3 : k0_cond3 i = 1#1), ∀ a, (k0_off137 v242) a + S1.size a ≤ S64.size a := fun i v242 k0_hw68 k0_h3 => k0_hw68 k0_h3

def k0_off138 (i : grid0.Coords) : Fin 1 → Nat :=
  let arg0 : BitVec 32 := BitVec.ofNat 32 (i 0).val
  let c16_i32_228 : BitVec 32 := 16#32
  let v261 : BitVec 32 := Scalar.muli arg0 c16_i32_228
  let c2_i32_229 : BitVec 32 := 2#32
  let v262 : BitVec 32 := Scalar.addi v261 c2_i32_229
  let v263 : Index := Scalar.indexCast v262
  ![v263.toNat]
def k0_off139 (v264 : BitVec 32) : Fin 1 → Nat :=
  let v265 : Index := Scalar.indexCast v264
  ![v265.toNat]

def k0_chk69 (i : grid0.Coords) (v264 : BitVec 32) : Prop :=
  (∀ (k0_h3 : k0_cond3 i = 1#1), ∀ a, (k0_off139 v264) a + S1.size a ≤ S64.size a)
theorem k0_off139_inb : ∀ (i : grid0.Coords) (v264 : BitVec 32) (k0_hw69 : k0_chk69 i v264), ∀ (k0_h3 : k0_cond3 i = 1#1), ∀ a, (k0_off139 v264) a + S1.size a ≤ S64.size a := fun i v264 k0_hw69 k0_h3 => k0_hw69 k0_h3

def k0_off140 (i : grid0.Coords) : Fin 1 → Nat :=
  let arg0 : BitVec 32 := BitVec.ofNat 32 (i 0).val
  let c16_i32_230 : BitVec 32 := 16#32
  let v267 : BitVec 32 := Scalar.muli arg0 c16_i32_230
  let c2_i32_231 : BitVec 32 := 2#32
  let v268 : BitVec 32 := Scalar.addi v267 c2_i32_231
  let v269 : Index := Scalar.indexCast v268
  ![v269.toNat]
def k0_off141 (v270 : BitVec 32) : Fin 1 → Nat :=
  let v271 : Index := Scalar.indexCast v270
  ![v271.toNat]

def k0_chk70 (i : grid0.Coords) (v270 : BitVec 32) : Prop :=
  (∀ (k0_h3 : k0_cond3 i = 1#1), ∀ a, (k0_off141 v270) a + S1.size a ≤ S64.size a)
theorem k0_off141_inb : ∀ (i : grid0.Coords) (v270 : BitVec 32) (k0_hw70 : k0_chk70 i v270), ∀ (k0_h3 : k0_cond3 i = 1#1), ∀ a, (k0_off141 v270) a + S1.size a ≤ S64.size a := fun i v270 k0_hw70 k0_h3 => k0_hw70 k0_h3

def k0_off142 (i : grid0.Coords) : Fin 1 → Nat :=
  let arg0 : BitVec 32 := BitVec.ofNat 32 (i 0).val
  let c16_i32_237 : BitVec 32 := 16#32
  let v289 : BitVec 32 := Scalar.muli arg0 c16_i32_237
  let c3_i32_238 : BitVec 32 := 3#32
  let v290 : BitVec 32 := Scalar.addi v289 c3_i32_238
  let v291 : Index := Scalar.indexCast v290
  ![v291.toNat]
def k0_off143 (v292 : BitVec 32) : Fin 1 → Nat :=
  let v293 : Index := Scalar.indexCast v292
  ![v293.toNat]

def k0_chk71 (i : grid0.Coords) (v292 : BitVec 32) : Prop :=
  (∀ (k0_h3 : k0_cond3 i = 1#1), ∀ a, (k0_off143 v292) a + S1.size a ≤ S64.size a)
theorem k0_off143_inb : ∀ (i : grid0.Coords) (v292 : BitVec 32) (k0_hw71 : k0_chk71 i v292), ∀ (k0_h3 : k0_cond3 i = 1#1), ∀ a, (k0_off143 v292) a + S1.size a ≤ S64.size a := fun i v292 k0_hw71 k0_h3 => k0_hw71 k0_h3

def k0_off144 (i : grid0.Coords) : Fin 1 → Nat :=
  let arg0 : BitVec 32 := BitVec.ofNat 32 (i 0).val
  let c16_i32_239 : BitVec 32 := 16#32
  let v295 : BitVec 32 := Scalar.muli arg0 c16_i32_239
  let c3_i32_240 : BitVec 32 := 3#32
  let v296 : BitVec 32 := Scalar.addi v295 c3_i32_240
  let v297 : Index := Scalar.indexCast v296
  ![v297.toNat]
def k0_off145 (v298 : BitVec 32) : Fin 1 → Nat :=
  let v299 : Index := Scalar.indexCast v298
  ![v299.toNat]

def k0_chk72 (i : grid0.Coords) (v298 : BitVec 32) : Prop :=
  (∀ (k0_h3 : k0_cond3 i = 1#1), ∀ a, (k0_off145 v298) a + S1.size a ≤ S64.size a)
theorem k0_off145_inb : ∀ (i : grid0.Coords) (v298 : BitVec 32) (k0_hw72 : k0_chk72 i v298), ∀ (k0_h3 : k0_cond3 i = 1#1), ∀ a, (k0_off145 v298) a + S1.size a ≤ S64.size a := fun i v298 k0_hw72 k0_h3 => k0_hw72 k0_h3

def k0_off146 (i : grid0.Coords) : Fin 1 → Nat :=
  let arg0 : BitVec 32 := BitVec.ofNat 32 (i 0).val
  let c16_i32_246 : BitVec 32 := 16#32
  let v317 : BitVec 32 := Scalar.muli arg0 c16_i32_246
  let c4_i32 : BitVec 32 := 4#32
  let v318 : BitVec 32 := Scalar.addi v317 c4_i32
  let v319 : Index := Scalar.indexCast v318
  ![v319.toNat]
def k0_off147 (v320 : BitVec 32) : Fin 1 → Nat :=
  let v321 : Index := Scalar.indexCast v320
  ![v321.toNat]

def k0_chk73 (i : grid0.Coords) (v320 : BitVec 32) : Prop :=
  (∀ (k0_h3 : k0_cond3 i = 1#1), ∀ a, (k0_off147 v320) a + S1.size a ≤ S64.size a)
theorem k0_off147_inb : ∀ (i : grid0.Coords) (v320 : BitVec 32) (k0_hw73 : k0_chk73 i v320), ∀ (k0_h3 : k0_cond3 i = 1#1), ∀ a, (k0_off147 v320) a + S1.size a ≤ S64.size a := fun i v320 k0_hw73 k0_h3 => k0_hw73 k0_h3

def k0_off148 (i : grid0.Coords) : Fin 1 → Nat :=
  let arg0 : BitVec 32 := BitVec.ofNat 32 (i 0).val
  let c16_i32_247 : BitVec 32 := 16#32
  let v323 : BitVec 32 := Scalar.muli arg0 c16_i32_247
  let c4_i32_248 : BitVec 32 := 4#32
  let v324 : BitVec 32 := Scalar.addi v323 c4_i32_248
  let v325 : Index := Scalar.indexCast v324
  ![v325.toNat]
def k0_off149 (v326 : BitVec 32) : Fin 1 → Nat :=
  let v327 : Index := Scalar.indexCast v326
  ![v327.toNat]

def k0_chk74 (i : grid0.Coords) (v326 : BitVec 32) : Prop :=
  (∀ (k0_h3 : k0_cond3 i = 1#1), ∀ a, (k0_off149 v326) a + S1.size a ≤ S64.size a)
theorem k0_off149_inb : ∀ (i : grid0.Coords) (v326 : BitVec 32) (k0_hw74 : k0_chk74 i v326), ∀ (k0_h3 : k0_cond3 i = 1#1), ∀ a, (k0_off149 v326) a + S1.size a ≤ S64.size a := fun i v326 k0_hw74 k0_h3 => k0_hw74 k0_h3

def k0_off150 (i : grid0.Coords) : Fin 1 → Nat :=
  let arg0 : BitVec 32 := BitVec.ofNat 32 (i 0).val
  let c16_i32_254 : BitVec 32 := 16#32
  let v345 : BitVec 32 := Scalar.muli arg0 c16_i32_254
  let c5_i32 : BitVec 32 := 5#32
  let v346 : BitVec 32 := Scalar.addi v345 c5_i32
  let v347 : Index := Scalar.indexCast v346
  ![v347.toNat]
def k0_off151 (v348 : BitVec 32) : Fin 1 → Nat :=
  let v349 : Index := Scalar.indexCast v348
  ![v349.toNat]

def k0_chk75 (i : grid0.Coords) (v348 : BitVec 32) : Prop :=
  (∀ (k0_h3 : k0_cond3 i = 1#1), ∀ a, (k0_off151 v348) a + S1.size a ≤ S64.size a)
theorem k0_off151_inb : ∀ (i : grid0.Coords) (v348 : BitVec 32) (k0_hw75 : k0_chk75 i v348), ∀ (k0_h3 : k0_cond3 i = 1#1), ∀ a, (k0_off151 v348) a + S1.size a ≤ S64.size a := fun i v348 k0_hw75 k0_h3 => k0_hw75 k0_h3

def k0_off152 (i : grid0.Coords) : Fin 1 → Nat :=
  let arg0 : BitVec 32 := BitVec.ofNat 32 (i 0).val
  let c16_i32_255 : BitVec 32 := 16#32
  let v351 : BitVec 32 := Scalar.muli arg0 c16_i32_255
  let c5_i32_256 : BitVec 32 := 5#32
  let v352 : BitVec 32 := Scalar.addi v351 c5_i32_256
  let v353 : Index := Scalar.indexCast v352
  ![v353.toNat]
def k0_off153 (v354 : BitVec 32) : Fin 1 → Nat :=
  let v355 : Index := Scalar.indexCast v354
  ![v355.toNat]

def k0_chk76 (i : grid0.Coords) (v354 : BitVec 32) : Prop :=
  (∀ (k0_h3 : k0_cond3 i = 1#1), ∀ a, (k0_off153 v354) a + S1.size a ≤ S64.size a)
theorem k0_off153_inb : ∀ (i : grid0.Coords) (v354 : BitVec 32) (k0_hw76 : k0_chk76 i v354), ∀ (k0_h3 : k0_cond3 i = 1#1), ∀ a, (k0_off153 v354) a + S1.size a ≤ S64.size a := fun i v354 k0_hw76 k0_h3 => k0_hw76 k0_h3

def k0_off154 (i : grid0.Coords) : Fin 1 → Nat :=
  let arg0 : BitVec 32 := BitVec.ofNat 32 (i 0).val
  let c16_i32_262 : BitVec 32 := 16#32
  let v373 : BitVec 32 := Scalar.muli arg0 c16_i32_262
  let c6_i32 : BitVec 32 := 6#32
  let v374 : BitVec 32 := Scalar.addi v373 c6_i32
  let v375 : Index := Scalar.indexCast v374
  ![v375.toNat]
def k0_off155 (v376 : BitVec 32) : Fin 1 → Nat :=
  let v377 : Index := Scalar.indexCast v376
  ![v377.toNat]

def k0_chk77 (i : grid0.Coords) (v376 : BitVec 32) : Prop :=
  (∀ (k0_h3 : k0_cond3 i = 1#1), ∀ a, (k0_off155 v376) a + S1.size a ≤ S64.size a)
theorem k0_off155_inb : ∀ (i : grid0.Coords) (v376 : BitVec 32) (k0_hw77 : k0_chk77 i v376), ∀ (k0_h3 : k0_cond3 i = 1#1), ∀ a, (k0_off155 v376) a + S1.size a ≤ S64.size a := fun i v376 k0_hw77 k0_h3 => k0_hw77 k0_h3

def k0_off156 (i : grid0.Coords) : Fin 1 → Nat :=
  let arg0 : BitVec 32 := BitVec.ofNat 32 (i 0).val
  let c16_i32_263 : BitVec 32 := 16#32
  let v379 : BitVec 32 := Scalar.muli arg0 c16_i32_263
  let c6_i32_264 : BitVec 32 := 6#32
  let v380 : BitVec 32 := Scalar.addi v379 c6_i32_264
  let v381 : Index := Scalar.indexCast v380
  ![v381.toNat]
def k0_off157 (v382 : BitVec 32) : Fin 1 → Nat :=
  let v383 : Index := Scalar.indexCast v382
  ![v383.toNat]

def k0_chk78 (i : grid0.Coords) (v382 : BitVec 32) : Prop :=
  (∀ (k0_h3 : k0_cond3 i = 1#1), ∀ a, (k0_off157 v382) a + S1.size a ≤ S64.size a)
theorem k0_off157_inb : ∀ (i : grid0.Coords) (v382 : BitVec 32) (k0_hw78 : k0_chk78 i v382), ∀ (k0_h3 : k0_cond3 i = 1#1), ∀ a, (k0_off157 v382) a + S1.size a ≤ S64.size a := fun i v382 k0_hw78 k0_h3 => k0_hw78 k0_h3

def k0_off158 (i : grid0.Coords) : Fin 1 → Nat :=
  let arg0 : BitVec 32 := BitVec.ofNat 32 (i 0).val
  let c16_i32_270 : BitVec 32 := 16#32
  let v401 : BitVec 32 := Scalar.muli arg0 c16_i32_270
  let c7_i32 : BitVec 32 := 7#32
  let v402 : BitVec 32 := Scalar.addi v401 c7_i32
  let v403 : Index := Scalar.indexCast v402
  ![v403.toNat]
def k0_off159 (v404 : BitVec 32) : Fin 1 → Nat :=
  let v405 : Index := Scalar.indexCast v404
  ![v405.toNat]

def k0_chk79 (i : grid0.Coords) (v404 : BitVec 32) : Prop :=
  (∀ (k0_h3 : k0_cond3 i = 1#1), ∀ a, (k0_off159 v404) a + S1.size a ≤ S64.size a)
theorem k0_off159_inb : ∀ (i : grid0.Coords) (v404 : BitVec 32) (k0_hw79 : k0_chk79 i v404), ∀ (k0_h3 : k0_cond3 i = 1#1), ∀ a, (k0_off159 v404) a + S1.size a ≤ S64.size a := fun i v404 k0_hw79 k0_h3 => k0_hw79 k0_h3

def k0_off160 (i : grid0.Coords) : Fin 1 → Nat :=
  let arg0 : BitVec 32 := BitVec.ofNat 32 (i 0).val
  let c16_i32_271 : BitVec 32 := 16#32
  let v407 : BitVec 32 := Scalar.muli arg0 c16_i32_271
  let c7_i32_272 : BitVec 32 := 7#32
  let v408 : BitVec 32 := Scalar.addi v407 c7_i32_272
  let v409 : Index := Scalar.indexCast v408
  ![v409.toNat]
def k0_off161 (v410 : BitVec 32) : Fin 1 → Nat :=
  let v411 : Index := Scalar.indexCast v410
  ![v411.toNat]

def k0_chk80 (i : grid0.Coords) (v410 : BitVec 32) : Prop :=
  (∀ (k0_h3 : k0_cond3 i = 1#1), ∀ a, (k0_off161 v410) a + S1.size a ≤ S64.size a)
theorem k0_off161_inb : ∀ (i : grid0.Coords) (v410 : BitVec 32) (k0_hw80 : k0_chk80 i v410), ∀ (k0_h3 : k0_cond3 i = 1#1), ∀ a, (k0_off161 v410) a + S1.size a ≤ S64.size a := fun i v410 k0_hw80 k0_h3 => k0_hw80 k0_h3

def k0_off162 (i : grid0.Coords) : Fin 1 → Nat :=
  let arg0 : BitVec 32 := BitVec.ofNat 32 (i 0).val
  let c16_i32_278 : BitVec 32 := 16#32
  let v429 : BitVec 32 := Scalar.muli arg0 c16_i32_278
  let c8_i32 : BitVec 32 := 8#32
  let v430 : BitVec 32 := Scalar.addi v429 c8_i32
  let v431 : Index := Scalar.indexCast v430
  ![v431.toNat]
def k0_off163 (v432 : BitVec 32) : Fin 1 → Nat :=
  let v433 : Index := Scalar.indexCast v432
  ![v433.toNat]

def k0_chk81 (i : grid0.Coords) (v432 : BitVec 32) : Prop :=
  (∀ (k0_h3 : k0_cond3 i = 1#1), ∀ a, (k0_off163 v432) a + S1.size a ≤ S64.size a)
theorem k0_off163_inb : ∀ (i : grid0.Coords) (v432 : BitVec 32) (k0_hw81 : k0_chk81 i v432), ∀ (k0_h3 : k0_cond3 i = 1#1), ∀ a, (k0_off163 v432) a + S1.size a ≤ S64.size a := fun i v432 k0_hw81 k0_h3 => k0_hw81 k0_h3

def k0_off164 (i : grid0.Coords) : Fin 1 → Nat :=
  let arg0 : BitVec 32 := BitVec.ofNat 32 (i 0).val
  let c16_i32_279 : BitVec 32 := 16#32
  let v435 : BitVec 32 := Scalar.muli arg0 c16_i32_279
  let c8_i32_280 : BitVec 32 := 8#32
  let v436 : BitVec 32 := Scalar.addi v435 c8_i32_280
  let v437 : Index := Scalar.indexCast v436
  ![v437.toNat]
def k0_off165 (v438 : BitVec 32) : Fin 1 → Nat :=
  let v439 : Index := Scalar.indexCast v438
  ![v439.toNat]

def k0_chk82 (i : grid0.Coords) (v438 : BitVec 32) : Prop :=
  (∀ (k0_h3 : k0_cond3 i = 1#1), ∀ a, (k0_off165 v438) a + S1.size a ≤ S64.size a)
theorem k0_off165_inb : ∀ (i : grid0.Coords) (v438 : BitVec 32) (k0_hw82 : k0_chk82 i v438), ∀ (k0_h3 : k0_cond3 i = 1#1), ∀ a, (k0_off165 v438) a + S1.size a ≤ S64.size a := fun i v438 k0_hw82 k0_h3 => k0_hw82 k0_h3

def k0_off166 (i : grid0.Coords) : Fin 1 → Nat :=
  let arg0 : BitVec 32 := BitVec.ofNat 32 (i 0).val
  let c16_i32_286 : BitVec 32 := 16#32
  let v457 : BitVec 32 := Scalar.muli arg0 c16_i32_286
  let c9_i32 : BitVec 32 := 9#32
  let v458 : BitVec 32 := Scalar.addi v457 c9_i32
  let v459 : Index := Scalar.indexCast v458
  ![v459.toNat]
def k0_off167 (v460 : BitVec 32) : Fin 1 → Nat :=
  let v461 : Index := Scalar.indexCast v460
  ![v461.toNat]

def k0_chk83 (i : grid0.Coords) (v460 : BitVec 32) : Prop :=
  (∀ (k0_h3 : k0_cond3 i = 1#1), ∀ a, (k0_off167 v460) a + S1.size a ≤ S64.size a)
theorem k0_off167_inb : ∀ (i : grid0.Coords) (v460 : BitVec 32) (k0_hw83 : k0_chk83 i v460), ∀ (k0_h3 : k0_cond3 i = 1#1), ∀ a, (k0_off167 v460) a + S1.size a ≤ S64.size a := fun i v460 k0_hw83 k0_h3 => k0_hw83 k0_h3

def k0_off168 (i : grid0.Coords) : Fin 1 → Nat :=
  let arg0 : BitVec 32 := BitVec.ofNat 32 (i 0).val
  let c16_i32_287 : BitVec 32 := 16#32
  let v463 : BitVec 32 := Scalar.muli arg0 c16_i32_287
  let c9_i32_288 : BitVec 32 := 9#32
  let v464 : BitVec 32 := Scalar.addi v463 c9_i32_288
  let v465 : Index := Scalar.indexCast v464
  ![v465.toNat]
def k0_off169 (v466 : BitVec 32) : Fin 1 → Nat :=
  let v467 : Index := Scalar.indexCast v466
  ![v467.toNat]

def k0_chk84 (i : grid0.Coords) (v466 : BitVec 32) : Prop :=
  (∀ (k0_h3 : k0_cond3 i = 1#1), ∀ a, (k0_off169 v466) a + S1.size a ≤ S64.size a)
theorem k0_off169_inb : ∀ (i : grid0.Coords) (v466 : BitVec 32) (k0_hw84 : k0_chk84 i v466), ∀ (k0_h3 : k0_cond3 i = 1#1), ∀ a, (k0_off169 v466) a + S1.size a ≤ S64.size a := fun i v466 k0_hw84 k0_h3 => k0_hw84 k0_h3

def k0_off170 (i : grid0.Coords) : Fin 1 → Nat :=
  let arg0 : BitVec 32 := BitVec.ofNat 32 (i 0).val
  let c16_i32_294 : BitVec 32 := 16#32
  let v485 : BitVec 32 := Scalar.muli arg0 c16_i32_294
  let c10_i32 : BitVec 32 := 10#32
  let v486 : BitVec 32 := Scalar.addi v485 c10_i32
  let v487 : Index := Scalar.indexCast v486
  ![v487.toNat]
def k0_off171 (v488 : BitVec 32) : Fin 1 → Nat :=
  let v489 : Index := Scalar.indexCast v488
  ![v489.toNat]

def k0_chk85 (i : grid0.Coords) (v488 : BitVec 32) : Prop :=
  (∀ (k0_h3 : k0_cond3 i = 1#1), ∀ a, (k0_off171 v488) a + S1.size a ≤ S64.size a)
theorem k0_off171_inb : ∀ (i : grid0.Coords) (v488 : BitVec 32) (k0_hw85 : k0_chk85 i v488), ∀ (k0_h3 : k0_cond3 i = 1#1), ∀ a, (k0_off171 v488) a + S1.size a ≤ S64.size a := fun i v488 k0_hw85 k0_h3 => k0_hw85 k0_h3

def k0_off172 (i : grid0.Coords) : Fin 1 → Nat :=
  let arg0 : BitVec 32 := BitVec.ofNat 32 (i 0).val
  let c16_i32_295 : BitVec 32 := 16#32
  let v491 : BitVec 32 := Scalar.muli arg0 c16_i32_295
  let c10_i32_296 : BitVec 32 := 10#32
  let v492 : BitVec 32 := Scalar.addi v491 c10_i32_296
  let v493 : Index := Scalar.indexCast v492
  ![v493.toNat]
def k0_off173 (v494 : BitVec 32) : Fin 1 → Nat :=
  let v495 : Index := Scalar.indexCast v494
  ![v495.toNat]

def k0_chk86 (i : grid0.Coords) (v494 : BitVec 32) : Prop :=
  (∀ (k0_h3 : k0_cond3 i = 1#1), ∀ a, (k0_off173 v494) a + S1.size a ≤ S64.size a)
theorem k0_off173_inb : ∀ (i : grid0.Coords) (v494 : BitVec 32) (k0_hw86 : k0_chk86 i v494), ∀ (k0_h3 : k0_cond3 i = 1#1), ∀ a, (k0_off173 v494) a + S1.size a ≤ S64.size a := fun i v494 k0_hw86 k0_h3 => k0_hw86 k0_h3

def k0_off174 (i : grid0.Coords) : Fin 1 → Nat :=
  let arg0 : BitVec 32 := BitVec.ofNat 32 (i 0).val
  let c16_i32_302 : BitVec 32 := 16#32
  let v513 : BitVec 32 := Scalar.muli arg0 c16_i32_302
  let c11_i32 : BitVec 32 := 11#32
  let v514 : BitVec 32 := Scalar.addi v513 c11_i32
  let v515 : Index := Scalar.indexCast v514
  ![v515.toNat]
def k0_off175 (v516 : BitVec 32) : Fin 1 → Nat :=
  let v517 : Index := Scalar.indexCast v516
  ![v517.toNat]

def k0_chk87 (i : grid0.Coords) (v516 : BitVec 32) : Prop :=
  (∀ (k0_h3 : k0_cond3 i = 1#1), ∀ a, (k0_off175 v516) a + S1.size a ≤ S64.size a)
theorem k0_off175_inb : ∀ (i : grid0.Coords) (v516 : BitVec 32) (k0_hw87 : k0_chk87 i v516), ∀ (k0_h3 : k0_cond3 i = 1#1), ∀ a, (k0_off175 v516) a + S1.size a ≤ S64.size a := fun i v516 k0_hw87 k0_h3 => k0_hw87 k0_h3

def k0_off176 (i : grid0.Coords) : Fin 1 → Nat :=
  let arg0 : BitVec 32 := BitVec.ofNat 32 (i 0).val
  let c16_i32_303 : BitVec 32 := 16#32
  let v519 : BitVec 32 := Scalar.muli arg0 c16_i32_303
  let c11_i32_304 : BitVec 32 := 11#32
  let v520 : BitVec 32 := Scalar.addi v519 c11_i32_304
  let v521 : Index := Scalar.indexCast v520
  ![v521.toNat]
def k0_off177 (v522 : BitVec 32) : Fin 1 → Nat :=
  let v523 : Index := Scalar.indexCast v522
  ![v523.toNat]

def k0_chk88 (i : grid0.Coords) (v522 : BitVec 32) : Prop :=
  (∀ (k0_h3 : k0_cond3 i = 1#1), ∀ a, (k0_off177 v522) a + S1.size a ≤ S64.size a)
theorem k0_off177_inb : ∀ (i : grid0.Coords) (v522 : BitVec 32) (k0_hw88 : k0_chk88 i v522), ∀ (k0_h3 : k0_cond3 i = 1#1), ∀ a, (k0_off177 v522) a + S1.size a ≤ S64.size a := fun i v522 k0_hw88 k0_h3 => k0_hw88 k0_h3

def k0_off178 (i : grid0.Coords) : Fin 1 → Nat :=
  let arg0 : BitVec 32 := BitVec.ofNat 32 (i 0).val
  let c16_i32_310 : BitVec 32 := 16#32
  let v541 : BitVec 32 := Scalar.muli arg0 c16_i32_310
  let c12_i32 : BitVec 32 := 12#32
  let v542 : BitVec 32 := Scalar.addi v541 c12_i32
  let v543 : Index := Scalar.indexCast v542
  ![v543.toNat]
def k0_off179 (v544 : BitVec 32) : Fin 1 → Nat :=
  let v545 : Index := Scalar.indexCast v544
  ![v545.toNat]

def k0_chk89 (i : grid0.Coords) (v544 : BitVec 32) : Prop :=
  (∀ (k0_h3 : k0_cond3 i = 1#1), ∀ a, (k0_off179 v544) a + S1.size a ≤ S64.size a)
theorem k0_off179_inb : ∀ (i : grid0.Coords) (v544 : BitVec 32) (k0_hw89 : k0_chk89 i v544), ∀ (k0_h3 : k0_cond3 i = 1#1), ∀ a, (k0_off179 v544) a + S1.size a ≤ S64.size a := fun i v544 k0_hw89 k0_h3 => k0_hw89 k0_h3

def k0_off180 (i : grid0.Coords) : Fin 1 → Nat :=
  let arg0 : BitVec 32 := BitVec.ofNat 32 (i 0).val
  let c16_i32_311 : BitVec 32 := 16#32
  let v547 : BitVec 32 := Scalar.muli arg0 c16_i32_311
  let c12_i32_312 : BitVec 32 := 12#32
  let v548 : BitVec 32 := Scalar.addi v547 c12_i32_312
  let v549 : Index := Scalar.indexCast v548
  ![v549.toNat]
def k0_off181 (v550 : BitVec 32) : Fin 1 → Nat :=
  let v551 : Index := Scalar.indexCast v550
  ![v551.toNat]

def k0_chk90 (i : grid0.Coords) (v550 : BitVec 32) : Prop :=
  (∀ (k0_h3 : k0_cond3 i = 1#1), ∀ a, (k0_off181 v550) a + S1.size a ≤ S64.size a)
theorem k0_off181_inb : ∀ (i : grid0.Coords) (v550 : BitVec 32) (k0_hw90 : k0_chk90 i v550), ∀ (k0_h3 : k0_cond3 i = 1#1), ∀ a, (k0_off181 v550) a + S1.size a ≤ S64.size a := fun i v550 k0_hw90 k0_h3 => k0_hw90 k0_h3

def k0_off182 (i : grid0.Coords) : Fin 1 → Nat :=
  let arg0 : BitVec 32 := BitVec.ofNat 32 (i 0).val
  let c16_i32_318 : BitVec 32 := 16#32
  let v569 : BitVec 32 := Scalar.muli arg0 c16_i32_318
  let c13_i32 : BitVec 32 := 13#32
  let v570 : BitVec 32 := Scalar.addi v569 c13_i32
  let v571 : Index := Scalar.indexCast v570
  ![v571.toNat]
def k0_off183 (v572 : BitVec 32) : Fin 1 → Nat :=
  let v573 : Index := Scalar.indexCast v572
  ![v573.toNat]

def k0_chk91 (i : grid0.Coords) (v572 : BitVec 32) : Prop :=
  (∀ (k0_h3 : k0_cond3 i = 1#1), ∀ a, (k0_off183 v572) a + S1.size a ≤ S64.size a)
theorem k0_off183_inb : ∀ (i : grid0.Coords) (v572 : BitVec 32) (k0_hw91 : k0_chk91 i v572), ∀ (k0_h3 : k0_cond3 i = 1#1), ∀ a, (k0_off183 v572) a + S1.size a ≤ S64.size a := fun i v572 k0_hw91 k0_h3 => k0_hw91 k0_h3

def k0_off184 (i : grid0.Coords) : Fin 1 → Nat :=
  let arg0 : BitVec 32 := BitVec.ofNat 32 (i 0).val
  let c16_i32_319 : BitVec 32 := 16#32
  let v575 : BitVec 32 := Scalar.muli arg0 c16_i32_319
  let c13_i32_320 : BitVec 32 := 13#32
  let v576 : BitVec 32 := Scalar.addi v575 c13_i32_320
  let v577 : Index := Scalar.indexCast v576
  ![v577.toNat]
def k0_off185 (v578 : BitVec 32) : Fin 1 → Nat :=
  let v579 : Index := Scalar.indexCast v578
  ![v579.toNat]

def k0_chk92 (i : grid0.Coords) (v578 : BitVec 32) : Prop :=
  (∀ (k0_h3 : k0_cond3 i = 1#1), ∀ a, (k0_off185 v578) a + S1.size a ≤ S64.size a)
theorem k0_off185_inb : ∀ (i : grid0.Coords) (v578 : BitVec 32) (k0_hw92 : k0_chk92 i v578), ∀ (k0_h3 : k0_cond3 i = 1#1), ∀ a, (k0_off185 v578) a + S1.size a ≤ S64.size a := fun i v578 k0_hw92 k0_h3 => k0_hw92 k0_h3

def k0_off186 (i : grid0.Coords) : Fin 1 → Nat :=
  let arg0 : BitVec 32 := BitVec.ofNat 32 (i 0).val
  let c16_i32_326 : BitVec 32 := 16#32
  let v597 : BitVec 32 := Scalar.muli arg0 c16_i32_326
  let c14_i32 : BitVec 32 := 14#32
  let v598 : BitVec 32 := Scalar.addi v597 c14_i32
  let v599 : Index := Scalar.indexCast v598
  ![v599.toNat]
def k0_off187 (v600 : BitVec 32) : Fin 1 → Nat :=
  let v601 : Index := Scalar.indexCast v600
  ![v601.toNat]

def k0_chk93 (i : grid0.Coords) (v600 : BitVec 32) : Prop :=
  (∀ (k0_h3 : k0_cond3 i = 1#1), ∀ a, (k0_off187 v600) a + S1.size a ≤ S64.size a)
theorem k0_off187_inb : ∀ (i : grid0.Coords) (v600 : BitVec 32) (k0_hw93 : k0_chk93 i v600), ∀ (k0_h3 : k0_cond3 i = 1#1), ∀ a, (k0_off187 v600) a + S1.size a ≤ S64.size a := fun i v600 k0_hw93 k0_h3 => k0_hw93 k0_h3

def k0_off188 (i : grid0.Coords) : Fin 1 → Nat :=
  let arg0 : BitVec 32 := BitVec.ofNat 32 (i 0).val
  let c16_i32_327 : BitVec 32 := 16#32
  let v603 : BitVec 32 := Scalar.muli arg0 c16_i32_327
  let c14_i32_328 : BitVec 32 := 14#32
  let v604 : BitVec 32 := Scalar.addi v603 c14_i32_328
  let v605 : Index := Scalar.indexCast v604
  ![v605.toNat]
def k0_off189 (v606 : BitVec 32) : Fin 1 → Nat :=
  let v607 : Index := Scalar.indexCast v606
  ![v607.toNat]

def k0_chk94 (i : grid0.Coords) (v606 : BitVec 32) : Prop :=
  (∀ (k0_h3 : k0_cond3 i = 1#1), ∀ a, (k0_off189 v606) a + S1.size a ≤ S64.size a)
theorem k0_off189_inb : ∀ (i : grid0.Coords) (v606 : BitVec 32) (k0_hw94 : k0_chk94 i v606), ∀ (k0_h3 : k0_cond3 i = 1#1), ∀ a, (k0_off189 v606) a + S1.size a ≤ S64.size a := fun i v606 k0_hw94 k0_h3 => k0_hw94 k0_h3

def k0_off190 (i : grid0.Coords) : Fin 1 → Nat :=
  let arg0 : BitVec 32 := BitVec.ofNat 32 (i 0).val
  let c16_i32_334 : BitVec 32 := 16#32
  let v625 : BitVec 32 := Scalar.muli arg0 c16_i32_334
  let c15_i32 : BitVec 32 := 15#32
  let v626 : BitVec 32 := Scalar.addi v625 c15_i32
  let v627 : Index := Scalar.indexCast v626
  ![v627.toNat]
def k0_off191 (v628 : BitVec 32) : Fin 1 → Nat :=
  let v629 : Index := Scalar.indexCast v628
  ![v629.toNat]

def k0_chk95 (i : grid0.Coords) (v628 : BitVec 32) : Prop :=
  (∀ (k0_h3 : k0_cond3 i = 1#1), ∀ a, (k0_off191 v628) a + S1.size a ≤ S64.size a)
theorem k0_off191_inb : ∀ (i : grid0.Coords) (v628 : BitVec 32) (k0_hw95 : k0_chk95 i v628), ∀ (k0_h3 : k0_cond3 i = 1#1), ∀ a, (k0_off191 v628) a + S1.size a ≤ S64.size a := fun i v628 k0_hw95 k0_h3 => k0_hw95 k0_h3

def k0_off192 (i : grid0.Coords) : Fin 1 → Nat :=
  let arg0 : BitVec 32 := BitVec.ofNat 32 (i 0).val
  let c16_i32_335 : BitVec 32 := 16#32
  let v631 : BitVec 32 := Scalar.muli arg0 c16_i32_335
  let c15_i32_336 : BitVec 32 := 15#32
  let v632 : BitVec 32 := Scalar.addi v631 c15_i32_336
  let v633 : Index := Scalar.indexCast v632
  ![v633.toNat]
def k0_off193 (v634 : BitVec 32) : Fin 1 → Nat :=
  let v635 : Index := Scalar.indexCast v634
  ![v635.toNat]

def k0_chk96 (i : grid0.Coords) (v634 : BitVec 32) : Prop :=
  (∀ (k0_h3 : k0_cond3 i = 1#1), ∀ a, (k0_off193 v634) a + S1.size a ≤ S64.size a)
theorem k0_off193_inb : ∀ (i : grid0.Coords) (v634 : BitVec 32) (k0_hw96 : k0_chk96 i v634), ∀ (k0_h3 : k0_cond3 i = 1#1), ∀ a, (k0_off193 v634) a + S1.size a ≤ S64.size a := fun i v634 k0_hw96 k0_h3 => k0_hw96 k0_h3

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off194 (i : grid0.Coords) : Fin 1 → Nat :=
  let arg0 : BitVec 32 := BitVec.ofNat 32 (i 0).val
  let c16_i32 : BitVec 32 := 16#32
  let v253 : BitVec 32 := Scalar.muli arg0 c16_i32
  let c0_i32_370 : BitVec 32 := 0#32
  let v254 : BitVec 32 := Scalar.addi v253 c0_i32_370
  let v255 : Index := Scalar.indexCast v254
  ![v255.toNat]
def k0_off195 (v256 : BitVec 32) : Fin 1 → Nat :=
  let v257 : Index := Scalar.indexCast v256
  ![v257.toNat]

def k0_chk97 (i : grid0.Coords) (v256 : BitVec 32) : Prop :=
  (∀ (k0_h4 : k0_cond4 i = 1#1), ∀ a, (k0_off195 v256) a + S1.size a ≤ S64.size a)
theorem k0_off195_inb : ∀ (i : grid0.Coords) (v256 : BitVec 32) (k0_hw97 : k0_chk97 i v256), ∀ (k0_h4 : k0_cond4 i = 1#1), ∀ a, (k0_off195 v256) a + S1.size a ≤ S64.size a := fun i v256 k0_hw97 k0_h4 => k0_hw97 k0_h4

def k0_off196 (i : grid0.Coords) : Fin 1 → Nat :=
  let arg0 : BitVec 32 := BitVec.ofNat 32 (i 0).val
  let c16_i32_371 : BitVec 32 := 16#32
  let v259 : BitVec 32 := Scalar.muli arg0 c16_i32_371
  let c0_i32_372 : BitVec 32 := 0#32
  let v260 : BitVec 32 := Scalar.addi v259 c0_i32_372
  let v261 : Index := Scalar.indexCast v260
  ![v261.toNat]
def k0_off197 (v262 : BitVec 32) : Fin 1 → Nat :=
  let v263 : Index := Scalar.indexCast v262
  ![v263.toNat]

def k0_chk98 (i : grid0.Coords) (v262 : BitVec 32) : Prop :=
  (∀ (k0_h4 : k0_cond4 i = 1#1), ∀ a, (k0_off197 v262) a + S1.size a ≤ S64.size a)
theorem k0_off197_inb : ∀ (i : grid0.Coords) (v262 : BitVec 32) (k0_hw98 : k0_chk98 i v262), ∀ (k0_h4 : k0_cond4 i = 1#1), ∀ a, (k0_off197 v262) a + S1.size a ≤ S64.size a := fun i v262 k0_hw98 k0_h4 => k0_hw98 k0_h4

def k0_off198 (i : grid0.Coords) : Fin 1 → Nat :=
  let arg0 : BitVec 32 := BitVec.ofNat 32 (i 0).val
  let c16_i32_377 : BitVec 32 := 16#32
  let v281 : BitVec 32 := Scalar.muli arg0 c16_i32_377
  let c1_i32_378 : BitVec 32 := 1#32
  let v282 : BitVec 32 := Scalar.addi v281 c1_i32_378
  let v283 : Index := Scalar.indexCast v282
  ![v283.toNat]
def k0_off199 (v284 : BitVec 32) : Fin 1 → Nat :=
  let v285 : Index := Scalar.indexCast v284
  ![v285.toNat]

def k0_chk99 (i : grid0.Coords) (v284 : BitVec 32) : Prop :=
  (∀ (k0_h4 : k0_cond4 i = 1#1), ∀ a, (k0_off199 v284) a + S1.size a ≤ S64.size a)
theorem k0_off199_inb : ∀ (i : grid0.Coords) (v284 : BitVec 32) (k0_hw99 : k0_chk99 i v284), ∀ (k0_h4 : k0_cond4 i = 1#1), ∀ a, (k0_off199 v284) a + S1.size a ≤ S64.size a := fun i v284 k0_hw99 k0_h4 => k0_hw99 k0_h4

def k0_off200 (i : grid0.Coords) : Fin 1 → Nat :=
  let arg0 : BitVec 32 := BitVec.ofNat 32 (i 0).val
  let c16_i32_379 : BitVec 32 := 16#32
  let v287 : BitVec 32 := Scalar.muli arg0 c16_i32_379
  let c1_i32_380 : BitVec 32 := 1#32
  let v288 : BitVec 32 := Scalar.addi v287 c1_i32_380
  let v289 : Index := Scalar.indexCast v288
  ![v289.toNat]
def k0_off201 (v290 : BitVec 32) : Fin 1 → Nat :=
  let v291 : Index := Scalar.indexCast v290
  ![v291.toNat]

def k0_chk100 (i : grid0.Coords) (v290 : BitVec 32) : Prop :=
  (∀ (k0_h4 : k0_cond4 i = 1#1), ∀ a, (k0_off201 v290) a + S1.size a ≤ S64.size a)
theorem k0_off201_inb : ∀ (i : grid0.Coords) (v290 : BitVec 32) (k0_hw100 : k0_chk100 i v290), ∀ (k0_h4 : k0_cond4 i = 1#1), ∀ a, (k0_off201 v290) a + S1.size a ≤ S64.size a := fun i v290 k0_hw100 k0_h4 => k0_hw100 k0_h4

def k0_off202 (i : grid0.Coords) : Fin 1 → Nat :=
  let arg0 : BitVec 32 := BitVec.ofNat 32 (i 0).val
  let c16_i32_386 : BitVec 32 := 16#32
  let v309 : BitVec 32 := Scalar.muli arg0 c16_i32_386
  let c2_i32_387 : BitVec 32 := 2#32
  let v310 : BitVec 32 := Scalar.addi v309 c2_i32_387
  let v311 : Index := Scalar.indexCast v310
  ![v311.toNat]
def k0_off203 (v312 : BitVec 32) : Fin 1 → Nat :=
  let v313 : Index := Scalar.indexCast v312
  ![v313.toNat]

def k0_chk101 (i : grid0.Coords) (v312 : BitVec 32) : Prop :=
  (∀ (k0_h4 : k0_cond4 i = 1#1), ∀ a, (k0_off203 v312) a + S1.size a ≤ S64.size a)
theorem k0_off203_inb : ∀ (i : grid0.Coords) (v312 : BitVec 32) (k0_hw101 : k0_chk101 i v312), ∀ (k0_h4 : k0_cond4 i = 1#1), ∀ a, (k0_off203 v312) a + S1.size a ≤ S64.size a := fun i v312 k0_hw101 k0_h4 => k0_hw101 k0_h4

def k0_off204 (i : grid0.Coords) : Fin 1 → Nat :=
  let arg0 : BitVec 32 := BitVec.ofNat 32 (i 0).val
  let c16_i32_388 : BitVec 32 := 16#32
  let v315 : BitVec 32 := Scalar.muli arg0 c16_i32_388
  let c2_i32_389 : BitVec 32 := 2#32
  let v316 : BitVec 32 := Scalar.addi v315 c2_i32_389
  let v317 : Index := Scalar.indexCast v316
  ![v317.toNat]
def k0_off205 (v318 : BitVec 32) : Fin 1 → Nat :=
  let v319 : Index := Scalar.indexCast v318
  ![v319.toNat]

def k0_chk102 (i : grid0.Coords) (v318 : BitVec 32) : Prop :=
  (∀ (k0_h4 : k0_cond4 i = 1#1), ∀ a, (k0_off205 v318) a + S1.size a ≤ S64.size a)
theorem k0_off205_inb : ∀ (i : grid0.Coords) (v318 : BitVec 32) (k0_hw102 : k0_chk102 i v318), ∀ (k0_h4 : k0_cond4 i = 1#1), ∀ a, (k0_off205 v318) a + S1.size a ≤ S64.size a := fun i v318 k0_hw102 k0_h4 => k0_hw102 k0_h4

def k0_off206 (i : grid0.Coords) : Fin 1 → Nat :=
  let arg0 : BitVec 32 := BitVec.ofNat 32 (i 0).val
  let c16_i32_395 : BitVec 32 := 16#32
  let v337 : BitVec 32 := Scalar.muli arg0 c16_i32_395
  let c3_i32_396 : BitVec 32 := 3#32
  let v338 : BitVec 32 := Scalar.addi v337 c3_i32_396
  let v339 : Index := Scalar.indexCast v338
  ![v339.toNat]
def k0_off207 (v340 : BitVec 32) : Fin 1 → Nat :=
  let v341 : Index := Scalar.indexCast v340
  ![v341.toNat]

def k0_chk103 (i : grid0.Coords) (v340 : BitVec 32) : Prop :=
  (∀ (k0_h4 : k0_cond4 i = 1#1), ∀ a, (k0_off207 v340) a + S1.size a ≤ S64.size a)
theorem k0_off207_inb : ∀ (i : grid0.Coords) (v340 : BitVec 32) (k0_hw103 : k0_chk103 i v340), ∀ (k0_h4 : k0_cond4 i = 1#1), ∀ a, (k0_off207 v340) a + S1.size a ≤ S64.size a := fun i v340 k0_hw103 k0_h4 => k0_hw103 k0_h4

def k0_off208 (i : grid0.Coords) : Fin 1 → Nat :=
  let arg0 : BitVec 32 := BitVec.ofNat 32 (i 0).val
  let c16_i32_397 : BitVec 32 := 16#32
  let v343 : BitVec 32 := Scalar.muli arg0 c16_i32_397
  let c3_i32_398 : BitVec 32 := 3#32
  let v344 : BitVec 32 := Scalar.addi v343 c3_i32_398
  let v345 : Index := Scalar.indexCast v344
  ![v345.toNat]
def k0_off209 (v346 : BitVec 32) : Fin 1 → Nat :=
  let v347 : Index := Scalar.indexCast v346
  ![v347.toNat]

def k0_chk104 (i : grid0.Coords) (v346 : BitVec 32) : Prop :=
  (∀ (k0_h4 : k0_cond4 i = 1#1), ∀ a, (k0_off209 v346) a + S1.size a ≤ S64.size a)
theorem k0_off209_inb : ∀ (i : grid0.Coords) (v346 : BitVec 32) (k0_hw104 : k0_chk104 i v346), ∀ (k0_h4 : k0_cond4 i = 1#1), ∀ a, (k0_off209 v346) a + S1.size a ≤ S64.size a := fun i v346 k0_hw104 k0_h4 => k0_hw104 k0_h4

def k0_off210 (i : grid0.Coords) : Fin 1 → Nat :=
  let arg0 : BitVec 32 := BitVec.ofNat 32 (i 0).val
  let c16_i32_404 : BitVec 32 := 16#32
  let v365 : BitVec 32 := Scalar.muli arg0 c16_i32_404
  let c4_i32 : BitVec 32 := 4#32
  let v366 : BitVec 32 := Scalar.addi v365 c4_i32
  let v367 : Index := Scalar.indexCast v366
  ![v367.toNat]
def k0_off211 (v368 : BitVec 32) : Fin 1 → Nat :=
  let v369 : Index := Scalar.indexCast v368
  ![v369.toNat]

def k0_chk105 (i : grid0.Coords) (v368 : BitVec 32) : Prop :=
  (∀ (k0_h4 : k0_cond4 i = 1#1), ∀ a, (k0_off211 v368) a + S1.size a ≤ S64.size a)
theorem k0_off211_inb : ∀ (i : grid0.Coords) (v368 : BitVec 32) (k0_hw105 : k0_chk105 i v368), ∀ (k0_h4 : k0_cond4 i = 1#1), ∀ a, (k0_off211 v368) a + S1.size a ≤ S64.size a := fun i v368 k0_hw105 k0_h4 => k0_hw105 k0_h4

def k0_off212 (i : grid0.Coords) : Fin 1 → Nat :=
  let arg0 : BitVec 32 := BitVec.ofNat 32 (i 0).val
  let c16_i32_405 : BitVec 32 := 16#32
  let v371 : BitVec 32 := Scalar.muli arg0 c16_i32_405
  let c4_i32_406 : BitVec 32 := 4#32
  let v372 : BitVec 32 := Scalar.addi v371 c4_i32_406
  let v373 : Index := Scalar.indexCast v372
  ![v373.toNat]
def k0_off213 (v374 : BitVec 32) : Fin 1 → Nat :=
  let v375 : Index := Scalar.indexCast v374
  ![v375.toNat]

def k0_chk106 (i : grid0.Coords) (v374 : BitVec 32) : Prop :=
  (∀ (k0_h4 : k0_cond4 i = 1#1), ∀ a, (k0_off213 v374) a + S1.size a ≤ S64.size a)
theorem k0_off213_inb : ∀ (i : grid0.Coords) (v374 : BitVec 32) (k0_hw106 : k0_chk106 i v374), ∀ (k0_h4 : k0_cond4 i = 1#1), ∀ a, (k0_off213 v374) a + S1.size a ≤ S64.size a := fun i v374 k0_hw106 k0_h4 => k0_hw106 k0_h4

def k0_off214 (i : grid0.Coords) : Fin 1 → Nat :=
  let arg0 : BitVec 32 := BitVec.ofNat 32 (i 0).val
  let c16_i32_412 : BitVec 32 := 16#32
  let v393 : BitVec 32 := Scalar.muli arg0 c16_i32_412
  let c5_i32 : BitVec 32 := 5#32
  let v394 : BitVec 32 := Scalar.addi v393 c5_i32
  let v395 : Index := Scalar.indexCast v394
  ![v395.toNat]
def k0_off215 (v396 : BitVec 32) : Fin 1 → Nat :=
  let v397 : Index := Scalar.indexCast v396
  ![v397.toNat]

def k0_chk107 (i : grid0.Coords) (v396 : BitVec 32) : Prop :=
  (∀ (k0_h4 : k0_cond4 i = 1#1), ∀ a, (k0_off215 v396) a + S1.size a ≤ S64.size a)
theorem k0_off215_inb : ∀ (i : grid0.Coords) (v396 : BitVec 32) (k0_hw107 : k0_chk107 i v396), ∀ (k0_h4 : k0_cond4 i = 1#1), ∀ a, (k0_off215 v396) a + S1.size a ≤ S64.size a := fun i v396 k0_hw107 k0_h4 => k0_hw107 k0_h4

def k0_off216 (i : grid0.Coords) : Fin 1 → Nat :=
  let arg0 : BitVec 32 := BitVec.ofNat 32 (i 0).val
  let c16_i32_413 : BitVec 32 := 16#32
  let v399 : BitVec 32 := Scalar.muli arg0 c16_i32_413
  let c5_i32_414 : BitVec 32 := 5#32
  let v400 : BitVec 32 := Scalar.addi v399 c5_i32_414
  let v401 : Index := Scalar.indexCast v400
  ![v401.toNat]
def k0_off217 (v402 : BitVec 32) : Fin 1 → Nat :=
  let v403 : Index := Scalar.indexCast v402
  ![v403.toNat]

def k0_chk108 (i : grid0.Coords) (v402 : BitVec 32) : Prop :=
  (∀ (k0_h4 : k0_cond4 i = 1#1), ∀ a, (k0_off217 v402) a + S1.size a ≤ S64.size a)
theorem k0_off217_inb : ∀ (i : grid0.Coords) (v402 : BitVec 32) (k0_hw108 : k0_chk108 i v402), ∀ (k0_h4 : k0_cond4 i = 1#1), ∀ a, (k0_off217 v402) a + S1.size a ≤ S64.size a := fun i v402 k0_hw108 k0_h4 => k0_hw108 k0_h4

def k0_off218 (i : grid0.Coords) : Fin 1 → Nat :=
  let arg0 : BitVec 32 := BitVec.ofNat 32 (i 0).val
  let c16_i32_420 : BitVec 32 := 16#32
  let v421 : BitVec 32 := Scalar.muli arg0 c16_i32_420
  let c6_i32 : BitVec 32 := 6#32
  let v422 : BitVec 32 := Scalar.addi v421 c6_i32
  let v423 : Index := Scalar.indexCast v422
  ![v423.toNat]
def k0_off219 (v424 : BitVec 32) : Fin 1 → Nat :=
  let v425 : Index := Scalar.indexCast v424
  ![v425.toNat]

def k0_chk109 (i : grid0.Coords) (v424 : BitVec 32) : Prop :=
  (∀ (k0_h4 : k0_cond4 i = 1#1), ∀ a, (k0_off219 v424) a + S1.size a ≤ S64.size a)
theorem k0_off219_inb : ∀ (i : grid0.Coords) (v424 : BitVec 32) (k0_hw109 : k0_chk109 i v424), ∀ (k0_h4 : k0_cond4 i = 1#1), ∀ a, (k0_off219 v424) a + S1.size a ≤ S64.size a := fun i v424 k0_hw109 k0_h4 => k0_hw109 k0_h4

def k0_off220 (i : grid0.Coords) : Fin 1 → Nat :=
  let arg0 : BitVec 32 := BitVec.ofNat 32 (i 0).val
  let c16_i32_421 : BitVec 32 := 16#32
  let v427 : BitVec 32 := Scalar.muli arg0 c16_i32_421
  let c6_i32_422 : BitVec 32 := 6#32
  let v428 : BitVec 32 := Scalar.addi v427 c6_i32_422
  let v429 : Index := Scalar.indexCast v428
  ![v429.toNat]
def k0_off221 (v430 : BitVec 32) : Fin 1 → Nat :=
  let v431 : Index := Scalar.indexCast v430
  ![v431.toNat]

def k0_chk110 (i : grid0.Coords) (v430 : BitVec 32) : Prop :=
  (∀ (k0_h4 : k0_cond4 i = 1#1), ∀ a, (k0_off221 v430) a + S1.size a ≤ S64.size a)
theorem k0_off221_inb : ∀ (i : grid0.Coords) (v430 : BitVec 32) (k0_hw110 : k0_chk110 i v430), ∀ (k0_h4 : k0_cond4 i = 1#1), ∀ a, (k0_off221 v430) a + S1.size a ≤ S64.size a := fun i v430 k0_hw110 k0_h4 => k0_hw110 k0_h4

def k0_off222 (i : grid0.Coords) : Fin 1 → Nat :=
  let arg0 : BitVec 32 := BitVec.ofNat 32 (i 0).val
  let c16_i32_428 : BitVec 32 := 16#32
  let v449 : BitVec 32 := Scalar.muli arg0 c16_i32_428
  let c7_i32 : BitVec 32 := 7#32
  let v450 : BitVec 32 := Scalar.addi v449 c7_i32
  let v451 : Index := Scalar.indexCast v450
  ![v451.toNat]
def k0_off223 (v452 : BitVec 32) : Fin 1 → Nat :=
  let v453 : Index := Scalar.indexCast v452
  ![v453.toNat]

def k0_chk111 (i : grid0.Coords) (v452 : BitVec 32) : Prop :=
  (∀ (k0_h4 : k0_cond4 i = 1#1), ∀ a, (k0_off223 v452) a + S1.size a ≤ S64.size a)
theorem k0_off223_inb : ∀ (i : grid0.Coords) (v452 : BitVec 32) (k0_hw111 : k0_chk111 i v452), ∀ (k0_h4 : k0_cond4 i = 1#1), ∀ a, (k0_off223 v452) a + S1.size a ≤ S64.size a := fun i v452 k0_hw111 k0_h4 => k0_hw111 k0_h4

def k0_off224 (i : grid0.Coords) : Fin 1 → Nat :=
  let arg0 : BitVec 32 := BitVec.ofNat 32 (i 0).val
  let c16_i32_429 : BitVec 32 := 16#32
  let v455 : BitVec 32 := Scalar.muli arg0 c16_i32_429
  let c7_i32_430 : BitVec 32 := 7#32
  let v456 : BitVec 32 := Scalar.addi v455 c7_i32_430
  let v457 : Index := Scalar.indexCast v456
  ![v457.toNat]
def k0_off225 (v458 : BitVec 32) : Fin 1 → Nat :=
  let v459 : Index := Scalar.indexCast v458
  ![v459.toNat]

def k0_chk112 (i : grid0.Coords) (v458 : BitVec 32) : Prop :=
  (∀ (k0_h4 : k0_cond4 i = 1#1), ∀ a, (k0_off225 v458) a + S1.size a ≤ S64.size a)
theorem k0_off225_inb : ∀ (i : grid0.Coords) (v458 : BitVec 32) (k0_hw112 : k0_chk112 i v458), ∀ (k0_h4 : k0_cond4 i = 1#1), ∀ a, (k0_off225 v458) a + S1.size a ≤ S64.size a := fun i v458 k0_hw112 k0_h4 => k0_hw112 k0_h4

def k0_off226 (i : grid0.Coords) : Fin 1 → Nat :=
  let arg0 : BitVec 32 := BitVec.ofNat 32 (i 0).val
  let c16_i32_436 : BitVec 32 := 16#32
  let v477 : BitVec 32 := Scalar.muli arg0 c16_i32_436
  let c8_i32 : BitVec 32 := 8#32
  let v478 : BitVec 32 := Scalar.addi v477 c8_i32
  let v479 : Index := Scalar.indexCast v478
  ![v479.toNat]
def k0_off227 (v480 : BitVec 32) : Fin 1 → Nat :=
  let v481 : Index := Scalar.indexCast v480
  ![v481.toNat]

def k0_chk113 (i : grid0.Coords) (v480 : BitVec 32) : Prop :=
  (∀ (k0_h4 : k0_cond4 i = 1#1), ∀ a, (k0_off227 v480) a + S1.size a ≤ S64.size a)
theorem k0_off227_inb : ∀ (i : grid0.Coords) (v480 : BitVec 32) (k0_hw113 : k0_chk113 i v480), ∀ (k0_h4 : k0_cond4 i = 1#1), ∀ a, (k0_off227 v480) a + S1.size a ≤ S64.size a := fun i v480 k0_hw113 k0_h4 => k0_hw113 k0_h4

def k0_off228 (i : grid0.Coords) : Fin 1 → Nat :=
  let arg0 : BitVec 32 := BitVec.ofNat 32 (i 0).val
  let c16_i32_437 : BitVec 32 := 16#32
  let v483 : BitVec 32 := Scalar.muli arg0 c16_i32_437
  let c8_i32_438 : BitVec 32 := 8#32
  let v484 : BitVec 32 := Scalar.addi v483 c8_i32_438
  let v485 : Index := Scalar.indexCast v484
  ![v485.toNat]
def k0_off229 (v486 : BitVec 32) : Fin 1 → Nat :=
  let v487 : Index := Scalar.indexCast v486
  ![v487.toNat]

def k0_chk114 (i : grid0.Coords) (v486 : BitVec 32) : Prop :=
  (∀ (k0_h4 : k0_cond4 i = 1#1), ∀ a, (k0_off229 v486) a + S1.size a ≤ S64.size a)
theorem k0_off229_inb : ∀ (i : grid0.Coords) (v486 : BitVec 32) (k0_hw114 : k0_chk114 i v486), ∀ (k0_h4 : k0_cond4 i = 1#1), ∀ a, (k0_off229 v486) a + S1.size a ≤ S64.size a := fun i v486 k0_hw114 k0_h4 => k0_hw114 k0_h4

def k0_off230 (i : grid0.Coords) : Fin 1 → Nat :=
  let arg0 : BitVec 32 := BitVec.ofNat 32 (i 0).val
  let c16_i32_444 : BitVec 32 := 16#32
  let v505 : BitVec 32 := Scalar.muli arg0 c16_i32_444
  let c9_i32 : BitVec 32 := 9#32
  let v506 : BitVec 32 := Scalar.addi v505 c9_i32
  let v507 : Index := Scalar.indexCast v506
  ![v507.toNat]
def k0_off231 (v508 : BitVec 32) : Fin 1 → Nat :=
  let v509 : Index := Scalar.indexCast v508
  ![v509.toNat]

def k0_chk115 (i : grid0.Coords) (v508 : BitVec 32) : Prop :=
  (∀ (k0_h4 : k0_cond4 i = 1#1), ∀ a, (k0_off231 v508) a + S1.size a ≤ S64.size a)
theorem k0_off231_inb : ∀ (i : grid0.Coords) (v508 : BitVec 32) (k0_hw115 : k0_chk115 i v508), ∀ (k0_h4 : k0_cond4 i = 1#1), ∀ a, (k0_off231 v508) a + S1.size a ≤ S64.size a := fun i v508 k0_hw115 k0_h4 => k0_hw115 k0_h4

def k0_off232 (i : grid0.Coords) : Fin 1 → Nat :=
  let arg0 : BitVec 32 := BitVec.ofNat 32 (i 0).val
  let c16_i32_445 : BitVec 32 := 16#32
  let v511 : BitVec 32 := Scalar.muli arg0 c16_i32_445
  let c9_i32_446 : BitVec 32 := 9#32
  let v512 : BitVec 32 := Scalar.addi v511 c9_i32_446
  let v513 : Index := Scalar.indexCast v512
  ![v513.toNat]
def k0_off233 (v514 : BitVec 32) : Fin 1 → Nat :=
  let v515 : Index := Scalar.indexCast v514
  ![v515.toNat]

def k0_chk116 (i : grid0.Coords) (v514 : BitVec 32) : Prop :=
  (∀ (k0_h4 : k0_cond4 i = 1#1), ∀ a, (k0_off233 v514) a + S1.size a ≤ S64.size a)
theorem k0_off233_inb : ∀ (i : grid0.Coords) (v514 : BitVec 32) (k0_hw116 : k0_chk116 i v514), ∀ (k0_h4 : k0_cond4 i = 1#1), ∀ a, (k0_off233 v514) a + S1.size a ≤ S64.size a := fun i v514 k0_hw116 k0_h4 => k0_hw116 k0_h4

def k0_off234 (i : grid0.Coords) : Fin 1 → Nat :=
  let arg0 : BitVec 32 := BitVec.ofNat 32 (i 0).val
  let c16_i32_452 : BitVec 32 := 16#32
  let v533 : BitVec 32 := Scalar.muli arg0 c16_i32_452
  let c10_i32 : BitVec 32 := 10#32
  let v534 : BitVec 32 := Scalar.addi v533 c10_i32
  let v535 : Index := Scalar.indexCast v534
  ![v535.toNat]
def k0_off235 (v536 : BitVec 32) : Fin 1 → Nat :=
  let v537 : Index := Scalar.indexCast v536
  ![v537.toNat]

def k0_chk117 (i : grid0.Coords) (v536 : BitVec 32) : Prop :=
  (∀ (k0_h4 : k0_cond4 i = 1#1), ∀ a, (k0_off235 v536) a + S1.size a ≤ S64.size a)
theorem k0_off235_inb : ∀ (i : grid0.Coords) (v536 : BitVec 32) (k0_hw117 : k0_chk117 i v536), ∀ (k0_h4 : k0_cond4 i = 1#1), ∀ a, (k0_off235 v536) a + S1.size a ≤ S64.size a := fun i v536 k0_hw117 k0_h4 => k0_hw117 k0_h4

def k0_off236 (i : grid0.Coords) : Fin 1 → Nat :=
  let arg0 : BitVec 32 := BitVec.ofNat 32 (i 0).val
  let c16_i32_453 : BitVec 32 := 16#32
  let v539 : BitVec 32 := Scalar.muli arg0 c16_i32_453
  let c10_i32_454 : BitVec 32 := 10#32
  let v540 : BitVec 32 := Scalar.addi v539 c10_i32_454
  let v541 : Index := Scalar.indexCast v540
  ![v541.toNat]
def k0_off237 (v542 : BitVec 32) : Fin 1 → Nat :=
  let v543 : Index := Scalar.indexCast v542
  ![v543.toNat]

def k0_chk118 (i : grid0.Coords) (v542 : BitVec 32) : Prop :=
  (∀ (k0_h4 : k0_cond4 i = 1#1), ∀ a, (k0_off237 v542) a + S1.size a ≤ S64.size a)
theorem k0_off237_inb : ∀ (i : grid0.Coords) (v542 : BitVec 32) (k0_hw118 : k0_chk118 i v542), ∀ (k0_h4 : k0_cond4 i = 1#1), ∀ a, (k0_off237 v542) a + S1.size a ≤ S64.size a := fun i v542 k0_hw118 k0_h4 => k0_hw118 k0_h4

def k0_off238 (i : grid0.Coords) : Fin 1 → Nat :=
  let arg0 : BitVec 32 := BitVec.ofNat 32 (i 0).val
  let c16_i32_460 : BitVec 32 := 16#32
  let v561 : BitVec 32 := Scalar.muli arg0 c16_i32_460
  let c11_i32 : BitVec 32 := 11#32
  let v562 : BitVec 32 := Scalar.addi v561 c11_i32
  let v563 : Index := Scalar.indexCast v562
  ![v563.toNat]
def k0_off239 (v564 : BitVec 32) : Fin 1 → Nat :=
  let v565 : Index := Scalar.indexCast v564
  ![v565.toNat]

def k0_chk119 (i : grid0.Coords) (v564 : BitVec 32) : Prop :=
  (∀ (k0_h4 : k0_cond4 i = 1#1), ∀ a, (k0_off239 v564) a + S1.size a ≤ S64.size a)
theorem k0_off239_inb : ∀ (i : grid0.Coords) (v564 : BitVec 32) (k0_hw119 : k0_chk119 i v564), ∀ (k0_h4 : k0_cond4 i = 1#1), ∀ a, (k0_off239 v564) a + S1.size a ≤ S64.size a := fun i v564 k0_hw119 k0_h4 => k0_hw119 k0_h4

def k0_off240 (i : grid0.Coords) : Fin 1 → Nat :=
  let arg0 : BitVec 32 := BitVec.ofNat 32 (i 0).val
  let c16_i32_461 : BitVec 32 := 16#32
  let v567 : BitVec 32 := Scalar.muli arg0 c16_i32_461
  let c11_i32_462 : BitVec 32 := 11#32
  let v568 : BitVec 32 := Scalar.addi v567 c11_i32_462
  let v569 : Index := Scalar.indexCast v568
  ![v569.toNat]
def k0_off241 (v570 : BitVec 32) : Fin 1 → Nat :=
  let v571 : Index := Scalar.indexCast v570
  ![v571.toNat]

def k0_chk120 (i : grid0.Coords) (v570 : BitVec 32) : Prop :=
  (∀ (k0_h4 : k0_cond4 i = 1#1), ∀ a, (k0_off241 v570) a + S1.size a ≤ S64.size a)
theorem k0_off241_inb : ∀ (i : grid0.Coords) (v570 : BitVec 32) (k0_hw120 : k0_chk120 i v570), ∀ (k0_h4 : k0_cond4 i = 1#1), ∀ a, (k0_off241 v570) a + S1.size a ≤ S64.size a := fun i v570 k0_hw120 k0_h4 => k0_hw120 k0_h4

def k0_off242 (i : grid0.Coords) : Fin 1 → Nat :=
  let arg0 : BitVec 32 := BitVec.ofNat 32 (i 0).val
  let c16_i32_468 : BitVec 32 := 16#32
  let v589 : BitVec 32 := Scalar.muli arg0 c16_i32_468
  let c12_i32 : BitVec 32 := 12#32
  let v590 : BitVec 32 := Scalar.addi v589 c12_i32
  let v591 : Index := Scalar.indexCast v590
  ![v591.toNat]
def k0_off243 (v592 : BitVec 32) : Fin 1 → Nat :=
  let v593 : Index := Scalar.indexCast v592
  ![v593.toNat]

def k0_chk121 (i : grid0.Coords) (v592 : BitVec 32) : Prop :=
  (∀ (k0_h4 : k0_cond4 i = 1#1), ∀ a, (k0_off243 v592) a + S1.size a ≤ S64.size a)
theorem k0_off243_inb : ∀ (i : grid0.Coords) (v592 : BitVec 32) (k0_hw121 : k0_chk121 i v592), ∀ (k0_h4 : k0_cond4 i = 1#1), ∀ a, (k0_off243 v592) a + S1.size a ≤ S64.size a := fun i v592 k0_hw121 k0_h4 => k0_hw121 k0_h4

def k0_off244 (i : grid0.Coords) : Fin 1 → Nat :=
  let arg0 : BitVec 32 := BitVec.ofNat 32 (i 0).val
  let c16_i32_469 : BitVec 32 := 16#32
  let v595 : BitVec 32 := Scalar.muli arg0 c16_i32_469
  let c12_i32_470 : BitVec 32 := 12#32
  let v596 : BitVec 32 := Scalar.addi v595 c12_i32_470
  let v597 : Index := Scalar.indexCast v596
  ![v597.toNat]
def k0_off245 (v598 : BitVec 32) : Fin 1 → Nat :=
  let v599 : Index := Scalar.indexCast v598
  ![v599.toNat]

def k0_chk122 (i : grid0.Coords) (v598 : BitVec 32) : Prop :=
  (∀ (k0_h4 : k0_cond4 i = 1#1), ∀ a, (k0_off245 v598) a + S1.size a ≤ S64.size a)
theorem k0_off245_inb : ∀ (i : grid0.Coords) (v598 : BitVec 32) (k0_hw122 : k0_chk122 i v598), ∀ (k0_h4 : k0_cond4 i = 1#1), ∀ a, (k0_off245 v598) a + S1.size a ≤ S64.size a := fun i v598 k0_hw122 k0_h4 => k0_hw122 k0_h4

def k0_off246 (i : grid0.Coords) : Fin 1 → Nat :=
  let arg0 : BitVec 32 := BitVec.ofNat 32 (i 0).val
  let c16_i32_476 : BitVec 32 := 16#32
  let v617 : BitVec 32 := Scalar.muli arg0 c16_i32_476
  let c13_i32 : BitVec 32 := 13#32
  let v618 : BitVec 32 := Scalar.addi v617 c13_i32
  let v619 : Index := Scalar.indexCast v618
  ![v619.toNat]
def k0_off247 (v620 : BitVec 32) : Fin 1 → Nat :=
  let v621 : Index := Scalar.indexCast v620
  ![v621.toNat]

def k0_chk123 (i : grid0.Coords) (v620 : BitVec 32) : Prop :=
  (∀ (k0_h4 : k0_cond4 i = 1#1), ∀ a, (k0_off247 v620) a + S1.size a ≤ S64.size a)
theorem k0_off247_inb : ∀ (i : grid0.Coords) (v620 : BitVec 32) (k0_hw123 : k0_chk123 i v620), ∀ (k0_h4 : k0_cond4 i = 1#1), ∀ a, (k0_off247 v620) a + S1.size a ≤ S64.size a := fun i v620 k0_hw123 k0_h4 => k0_hw123 k0_h4

def k0_off248 (i : grid0.Coords) : Fin 1 → Nat :=
  let arg0 : BitVec 32 := BitVec.ofNat 32 (i 0).val
  let c16_i32_477 : BitVec 32 := 16#32
  let v623 : BitVec 32 := Scalar.muli arg0 c16_i32_477
  let c13_i32_478 : BitVec 32 := 13#32
  let v624 : BitVec 32 := Scalar.addi v623 c13_i32_478
  let v625 : Index := Scalar.indexCast v624
  ![v625.toNat]
def k0_off249 (v626 : BitVec 32) : Fin 1 → Nat :=
  let v627 : Index := Scalar.indexCast v626
  ![v627.toNat]

def k0_chk124 (i : grid0.Coords) (v626 : BitVec 32) : Prop :=
  (∀ (k0_h4 : k0_cond4 i = 1#1), ∀ a, (k0_off249 v626) a + S1.size a ≤ S64.size a)
theorem k0_off249_inb : ∀ (i : grid0.Coords) (v626 : BitVec 32) (k0_hw124 : k0_chk124 i v626), ∀ (k0_h4 : k0_cond4 i = 1#1), ∀ a, (k0_off249 v626) a + S1.size a ≤ S64.size a := fun i v626 k0_hw124 k0_h4 => k0_hw124 k0_h4

def k0_off250 (i : grid0.Coords) : Fin 1 → Nat :=
  let arg0 : BitVec 32 := BitVec.ofNat 32 (i 0).val
  let c16_i32_484 : BitVec 32 := 16#32
  let v645 : BitVec 32 := Scalar.muli arg0 c16_i32_484
  let c14_i32 : BitVec 32 := 14#32
  let v646 : BitVec 32 := Scalar.addi v645 c14_i32
  let v647 : Index := Scalar.indexCast v646
  ![v647.toNat]
def k0_off251 (v648 : BitVec 32) : Fin 1 → Nat :=
  let v649 : Index := Scalar.indexCast v648
  ![v649.toNat]

def k0_chk125 (i : grid0.Coords) (v648 : BitVec 32) : Prop :=
  (∀ (k0_h4 : k0_cond4 i = 1#1), ∀ a, (k0_off251 v648) a + S1.size a ≤ S64.size a)
theorem k0_off251_inb : ∀ (i : grid0.Coords) (v648 : BitVec 32) (k0_hw125 : k0_chk125 i v648), ∀ (k0_h4 : k0_cond4 i = 1#1), ∀ a, (k0_off251 v648) a + S1.size a ≤ S64.size a := fun i v648 k0_hw125 k0_h4 => k0_hw125 k0_h4

def k0_off252 (i : grid0.Coords) : Fin 1 → Nat :=
  let arg0 : BitVec 32 := BitVec.ofNat 32 (i 0).val
  let c16_i32_485 : BitVec 32 := 16#32
  let v651 : BitVec 32 := Scalar.muli arg0 c16_i32_485
  let c14_i32_486 : BitVec 32 := 14#32
  let v652 : BitVec 32 := Scalar.addi v651 c14_i32_486
  let v653 : Index := Scalar.indexCast v652
  ![v653.toNat]
def k0_off253 (v654 : BitVec 32) : Fin 1 → Nat :=
  let v655 : Index := Scalar.indexCast v654
  ![v655.toNat]

def k0_chk126 (i : grid0.Coords) (v654 : BitVec 32) : Prop :=
  (∀ (k0_h4 : k0_cond4 i = 1#1), ∀ a, (k0_off253 v654) a + S1.size a ≤ S64.size a)
theorem k0_off253_inb : ∀ (i : grid0.Coords) (v654 : BitVec 32) (k0_hw126 : k0_chk126 i v654), ∀ (k0_h4 : k0_cond4 i = 1#1), ∀ a, (k0_off253 v654) a + S1.size a ≤ S64.size a := fun i v654 k0_hw126 k0_h4 => k0_hw126 k0_h4

def k0_off254 (i : grid0.Coords) : Fin 1 → Nat :=
  let arg0 : BitVec 32 := BitVec.ofNat 32 (i 0).val
  let c16_i32_492 : BitVec 32 := 16#32
  let v673 : BitVec 32 := Scalar.muli arg0 c16_i32_492
  let c15_i32 : BitVec 32 := 15#32
  let v674 : BitVec 32 := Scalar.addi v673 c15_i32
  let v675 : Index := Scalar.indexCast v674
  ![v675.toNat]
def k0_off255 (v676 : BitVec 32) : Fin 1 → Nat :=
  let v677 : Index := Scalar.indexCast v676
  ![v677.toNat]

def k0_chk127 (i : grid0.Coords) (v676 : BitVec 32) : Prop :=
  (∀ (k0_h4 : k0_cond4 i = 1#1), ∀ a, (k0_off255 v676) a + S1.size a ≤ S64.size a)
theorem k0_off255_inb : ∀ (i : grid0.Coords) (v676 : BitVec 32) (k0_hw127 : k0_chk127 i v676), ∀ (k0_h4 : k0_cond4 i = 1#1), ∀ a, (k0_off255 v676) a + S1.size a ≤ S64.size a := fun i v676 k0_hw127 k0_h4 => k0_hw127 k0_h4

def k0_off256 (i : grid0.Coords) : Fin 1 → Nat :=
  let arg0 : BitVec 32 := BitVec.ofNat 32 (i 0).val
  let c16_i32_493 : BitVec 32 := 16#32
  let v679 : BitVec 32 := Scalar.muli arg0 c16_i32_493
  let c15_i32_494 : BitVec 32 := 15#32
  let v680 : BitVec 32 := Scalar.addi v679 c15_i32_494
  let v681 : Index := Scalar.indexCast v680
  ![v681.toNat]
def k0_off257 (v682 : BitVec 32) : Fin 1 → Nat :=
  let v683 : Index := Scalar.indexCast v682
  ![v683.toNat]

def k0_chk128 (i : grid0.Coords) (v682 : BitVec 32) : Prop :=
  (∀ (k0_h4 : k0_cond4 i = 1#1), ∀ a, (k0_off257 v682) a + S1.size a ≤ S64.size a)
theorem k0_off257_inb : ∀ (i : grid0.Coords) (v682 : BitVec 32) (k0_hw128 : k0_chk128 i v682), ∀ (k0_h4 : k0_cond4 i = 1#1), ∀ a, (k0_off257 v682) a + S1.size a ≤ S64.size a := fun i v682 k0_hw128 k0_h4 => k0_hw128 k0_h4

def cc0_transform_0 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S64) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_1 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S64) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S64) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S64) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S64) ![v2.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_5 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S64) ![v2.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_6 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S64) ![v2.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_7 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S64) ![v2.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_8 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S64) ![v2.toNat] S1.size (k0_off1_inb i 8)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_9 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S64) ![v2.toNat] S1.size (k0_off1_inb i 9)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_10 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S64) ![v2.toNat] S1.size (k0_off1_inb i 10)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_11 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S64) ![v2.toNat] S1.size (k0_off1_inb i 11)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_12 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S64) ![v2.toNat] S1.size (k0_off1_inb i 12)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_13 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S64) ![v2.toNat] S1.size (k0_off1_inb i 13)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_14 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S64) ![v2.toNat] S1.size (k0_off1_inb i 14)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_15 (k0_off1_inb : ∀ i : grid0.Coords, ∀ (r : Fin 16), ∀ a, (k0_off1 i (BitVec.ofNat 32 r.val)) a + S1.size a ≤ S64.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S64) ![v2.toNat] S1.size (k0_off1_inb i 15)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x224x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x224x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x224x224 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x224x224 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x224x224 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x224x224 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x224x224 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x224x224 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x224x224 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x3x224x224 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1x1000 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S64x3x224x224 : Shape := ⟨4, ![64, 3, 224, 224]⟩
abbrev S64 : Shape := ⟨1, ![64]⟩
abbrev S16 : Shape := ⟨1, ![16]⟩
abbrev S_ : Shape := ⟨0, ![]⟩
abbrev S64x1 : Shape := ⟨2, ![64, 1]⟩
abbrev S1x1000 : Shape := ⟨2, ![1, 1000]⟩
abbrev S64x1000 : Shape := ⟨2, ![64, 1000]⟩
abbrev S32x3x224x224 : Shape := ⟨4, ![32, 3, 224, 224]⟩
abbrev S32x1000 : Shape := ⟨2, ![32, 1000]⟩
abbrev S16x3x224x224 : Shape := ⟨4, ![16, 3, 224, 224]⟩
abbrev S16x1000 : Shape := ⟨2, ![16, 1000]⟩
abbrev S16x1 : Shape := ⟨2, ![16, 1]⟩
abbrev S16x3x144x148 : Shape := ⟨4, ![16, 3, 144, 148]⟩
abbrev S1 : Shape := ⟨1, ![1]⟩
abbrev S2 : Shape := ⟨1, ![2]⟩
abbrev S16x3x102x144 : Shape := ⟨4, ![16, 3, 102, 144]⟩

abbrev nBuf : Space → Nat
  | .hbm => 179
  | .vmem => 0
  | .smem => 0
  | _ => 0

abbrev hbmTy0_0 (i : Nat) : BufTy := match i % 128 with
  | 0 => ⟨S64x3x224x224, .f32⟩
  | 1 => ⟨S64, .i32⟩
  | 2 => ⟨S16, .i32⟩
  | 3 => ⟨S16, .i32⟩
  | 4 => ⟨S16, .i32⟩
  | 5 => ⟨S16, .i32⟩
  | 6 => ⟨S_, .i32⟩
  | 7 => ⟨S64, .i32⟩
  | 8 => ⟨S64, .i1⟩
  | 9 => ⟨S64, .i32⟩
  | 10 => ⟨S64, .i32⟩
  | 11 => ⟨S64, .i32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S64x3x224x224, .f32⟩
  | 22 => ⟨S_, .i32⟩
  | 23 => ⟨S64, .i32⟩
  | 24 => ⟨S64, .i1⟩
  | 25 => ⟨S_, .i32⟩
  | 26 => ⟨S64, .i32⟩
  | 27 => ⟨S64, .i32⟩
  | 28 => ⟨S64, .i32⟩
  | 29 => ⟨S64x1, .i32⟩
  | 30 => ⟨S64, .i32⟩
  | 31 => ⟨S64x1, .i32⟩
  | 32 => ⟨S1x1000, .i32⟩
  | 33 => ⟨S64x1000, .i32⟩
  | 34 => ⟨S64x1000, .i32⟩
  | 35 => ⟨S64x1000, .i1⟩
  | 36 => ⟨S64x1000, .f32⟩
  | 37 => ⟨S32x3x224x224, .f32⟩
  | 38 => ⟨S32x1000, .f32⟩
  | 39 => ⟨S32x3x224x224, .f32⟩
  | 40 => ⟨S32x1000, .f32⟩
  | 41 => ⟨S16x3x224x224, .f32⟩
  | 42 => ⟨S16x1000, .f32⟩
  | 43 => ⟨S_, .f32⟩
  | 44 => ⟨S16x3x224x224, .f32⟩
  | 45 => ⟨S16x3x224x224, .f32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S16x1, .i32⟩
  | 54 => ⟨S16x3x224x224, .f32⟩
  | 55 => ⟨S_, .f32⟩
  | 56 => ⟨S16x3x224x224, .f32⟩
  | 57 => ⟨S16x3x224x224, .f32⟩
  | 58 => ⟨S16x3x224x224, .f32⟩
  | 59 => ⟨S_, .f32⟩
  | 60 => ⟨S16x1000, .f32⟩
  | 61 => ⟨S16x1000, .f32⟩
  | 62 => ⟨S_, .i32⟩
  | 63 => ⟨S16, .i32⟩
  | 64 => ⟨S16, .i1⟩
  | 65 => ⟨S_, .i32⟩
  | 66 => ⟨S16, .i32⟩
  | 67 => ⟨S16, .i32⟩
  | 68 => ⟨S16, .i32⟩
  | 69 => ⟨S16x1, .i32⟩
  | 70 => ⟨S16x1000, .f32⟩
  | 71 => ⟨S_, .f32⟩
  | 72 => ⟨S16x1000, .f32⟩
  | 73 => ⟨S16x1000, .f32⟩
  | 74 => ⟨S16x1000, .f32⟩
  | 75 => ⟨S16x3x224x224, .f32⟩
  | 76 => ⟨S16x1000, .f32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S16x3x224x224, .f32⟩
  | 86 => ⟨S16x3x144x148, .f32⟩
  | 87 => ⟨S_, .i32⟩
  | 88 => ⟨S1, .i32⟩
  | 89 => ⟨S_, .i32⟩
  | 90 => ⟨S1, .i32⟩
  | 91 => ⟨S2, .i32⟩
  | 92 => ⟨S16x3x224x224, .f32⟩
  | 93 => ⟨S_, .f32⟩
  | 94 => ⟨S16x1000, .f32⟩
  | 95 => ⟨S16x1000, .f32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S16x1, .i32⟩
  | 104 => ⟨S16x1000, .f32⟩
  | 105 => ⟨S_, .f32⟩
  | 106 => ⟨S16x1000, .f32⟩
  | 107 => ⟨S16x1000, .f32⟩
  | 108 => ⟨S16x1000, .f32⟩
  | 109 => ⟨S16x3x224x224, .f32⟩
  | 110 => ⟨S16x1000, .f32⟩
  | 111 => ⟨S_, .f32⟩
  | 112 => ⟨S16x3x224x224, .f32⟩
  | 113 => ⟨S16x3x224x224, .f32⟩
  | 114 => ⟨S_, .i32⟩
  | 115 => ⟨S16, .i32⟩
  | 116 => ⟨S16, .i1⟩
  | 117 => ⟨S_, .i32⟩
  | 118 => ⟨S16, .i32⟩
  | 119 => ⟨S16, .i32⟩
  | 120 => ⟨S16, .i32⟩
  | 121 => ⟨S16x1, .i32⟩
  | 122 => ⟨S16x3x224x224, .f32⟩
  | 123 => ⟨S_, .f32⟩
  | 124 => ⟨S16x3x224x224, .f32⟩
  | 125 => ⟨S16x3x224x224, .f32⟩
  | 126 => ⟨S16x3x224x224, .f32⟩
  | 127 => ⟨S_, .f32⟩
  | _ => ⟨S64x3x224x224, .f32⟩

abbrev hbmTy0_1 (i : Nat) : BufTy := match i % 128 with
  | 0 => ⟨S16x1000, .f32⟩
  | 1 => ⟨S16x1000, .f32⟩
  | 2 => ⟨S_, .i32⟩
  | 3 => ⟨S16, .i32⟩
  | 4 => ⟨S16, .i1⟩
  | 5 => ⟨S_, .i32⟩
  | 6 => ⟨S16, .i32⟩
  | 7 => ⟨S16, .i32⟩
  | 8 => ⟨S16, .i32⟩
  | 9 => ⟨S16x1, .i32⟩
  | 10 => ⟨S16x1000, .f32⟩
  | 11 => ⟨S_, .f32⟩
  | 12 => ⟨S16x1000, .f32⟩
  | 13 => ⟨S16x1000, .f32⟩
  | 14 => ⟨S16x1000, .f32⟩
  | 15 => ⟨S16x3x224x224, .f32⟩
  | 16 => ⟨S16x1000, .f32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S16x3x224x224, .f32⟩
  | 26 => ⟨S16x3x102x144, .f32⟩
  | 27 => ⟨S_, .i32⟩
  | 28 => ⟨S1, .i32⟩
  | 29 => ⟨S_, .i32⟩
  | 30 => ⟨S1, .i32⟩
  | 31 => ⟨S2, .i32⟩
  | 32 => ⟨S16x3x224x224, .f32⟩
  | 33 => ⟨S_, .f32⟩
  | 34 => ⟨S16x1000, .f32⟩
  | 35 => ⟨S16x1000, .f32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S16x1, .i32⟩
  | 44 => ⟨S16x1000, .f32⟩
  | 45 => ⟨S_, .f32⟩
  | 46 => ⟨S16x1000, .f32⟩
  | 47 => ⟨S16x1000, .f32⟩
  | 48 => ⟨S16x1000, .f32⟩
  | 49 => ⟨S64x3x224x224, .f32⟩
  | 50 => ⟨S64x1000, .f32⟩
  | _ => ⟨S64x3x224x224, .f32⟩

abbrev hbmTy (i : Nat) : BufTy := match i / 128 with
  | 0 => hbmTy0_0 i
  | 1 => hbmTy0_1 i
  | _ => ⟨S64x3x224x224, .f32⟩

abbrev bufTy : (tb : Table) → Fin (tcTables nBuf tb) → BufTy
  | .hbm, ⟨i, _⟩ => hbmTy i
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1_0 : Ref sig .tc := ⟨.hbm, 11, rfl⟩
abbrev main_v3 : Ref sig .tc := ⟨.hbm, 12, rfl⟩
abbrev main_c_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_c_12 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_17 : Ref sig .tc := ⟨.hbm, 87, rfl⟩
abbrev main_v59 : Ref sig .tc := ⟨.hbm, 88, rfl⟩
abbrev main_c_18 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_c_20 : Ref sig .tc := ⟨.hbm, 96, rfl⟩
abbrev main_v65 : Ref sig .tc := ⟨.hbm, 97, rfl⟩
abbrev main_v66 : Ref sig .tc := ⟨.hbm, 98, rfl⟩
abbrev main_c_21 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_22 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_c_24 : Ref sig .tc := ⟨.hbm, 114, rfl⟩
abbrev main_v79 : Ref sig .tc := ⟨.hbm, 115, rfl⟩
abbrev main_v80 : Ref sig .tc := ⟨.hbm, 116, rfl⟩
abbrev main_c_25 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_26 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_27 : Ref sig .tc := ⟨.hbm, 127, rfl⟩
abbrev main_v89 : Ref sig .tc := ⟨.hbm, 128, rfl⟩
abbrev main_v90 : Ref sig .tc := ⟨.hbm, 129, rfl⟩
abbrev main_c_28 : Ref sig .tc := ⟨.hbm, 130, rfl⟩
abbrev main_v91 : Ref sig .tc := ⟨.hbm, 131, rfl⟩
abbrev main_v92 : Ref sig .tc := ⟨.hbm, 132, rfl⟩
abbrev main_c_29 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_30 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_31 : Ref sig .tc := ⟨.hbm, 145, rfl⟩
abbrev main_v103 : Ref sig .tc := ⟨.hbm, 146, rfl⟩
abbrev main_v104 : Ref sig .tc := ⟨.hbm, 147, rfl⟩
abbrev main_c_32 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_33 : Ref sig .tc := ⟨.hbm, 155, rfl⟩
abbrev main_v111 : Ref sig .tc := ⟨.hbm, 156, rfl⟩
abbrev main_c_34 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_35 : Ref sig .tc := ⟨.hbm, 161, rfl⟩
abbrev main_v115 : Ref sig .tc := ⟨.hbm, 162, rfl⟩
abbrev main_v116 : Ref sig .tc := ⟨.hbm, 163, rfl⟩
abbrev main_c_36 : Ref sig .tc := ⟨.hbm, 164, rfl⟩
abbrev main_v117 : Ref sig .tc := ⟨.hbm, 165, rfl⟩
abbrev main_v118 : Ref sig .tc := ⟨.hbm, 166, rfl⟩
abbrev main_c_37 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_38 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩

abbrev nD : Nat := 1
abbrev τ : Topo := Topo.v7x

variable {F : FTy → Type} [FloatOps F]
-- ==== Proof.Mix.Spec.lean ====
/- What both programs compute, as one function of the images `X` and the labels `L`.

   The images are first put in the order `ord L` of a stable sort that moves the images labelled 999 to the back.
   The 64 positions of that order fall into four blocks of 16. Inside a block every position `n` has a mate, another
   position of the same block. Blocks 0 and 2 add the two images with two weights. Blocks 1 and 3 keep the image and
   take a rectangle of it from the mate. The labels become rows of 1000 numbers, added with two weights in every block. -/
module

public import Idealize.ShloMosaic.Lib.SortFacts
public import Idealize.ShloMosaic.Lib.ValueIdx
public import Idealize.ShloMosaic.PureOps.Ideal

@[expose] public section

noncomputable section

namespace Cert.Mix

open Idealize.ShloMosaic

variable {F : FTy → Type} [FloatOps F]

/-- The labels, one word per image. -/
abbrev SL : Shape := ⟨1, ![64]⟩
/-- The images: 64 of them, three channels of 224 rows by 224 columns. -/
abbrev SX : Shape := ⟨4, ![64, 3, 224, 224]⟩
/-- One image. -/
abbrev SI : Shape := ⟨4, ![1, 3, 224, 224]⟩
/-- One block of images. -/
abbrev SB : Shape := ⟨4, ![16, 3, 224, 224]⟩
/-- The mixed labels: a row of 1000 numbers per image. -/
abbrev SO : Shape := ⟨2, ![64, 1000]⟩

/-- The mate of row `j` of block `b`, as a row of the same block. -/
def perm : Fin 4 → Fin 16 → Fin 16 := ![
  ![2, 10, 3, 12, 0, 4, 7, 5, 1, 14, 15, 11, 6, 13, 9, 8],
  ![4, 5, 7, 6, 2, 3, 15, 13, 11, 12, 1, 0, 8, 9, 10, 14],
  ![4, 6, 2, 15, 8, 7, 11, 13, 1, 9, 5, 10, 14, 0, 12, 3],
  ![15, 0, 6, 8, 7, 1, 5, 4, 13, 14, 11, 10, 2, 9, 3, 12]]

/-- The weight of an image's own label in block `b` (the bits of a 32-bit float); blocks 0 and 2 weigh the pixels by it too. -/
def wA : Fin 4 → BitVec 32 := ![0x3F7C8EAD#32, 0x3F1343EB#32, 0x3F10B6C6#32, 0x3F350FAC#32]
/-- The weight of the mate's label in block `b`. -/
def wB : Fin 4 → BitVec 32 := ![0x3C5C54C0#32, 0x3ED9782A#32, 0x3EDE9274#32, 0x3E95E0A8#32]

/-- The first row of block `b`'s rectangle, which reaches down to the last row (block 1 or 3). -/
def boxR : Fin 4 → Nat := ![0, 80, 0, 122]
/-- The number of columns of block `b`'s rectangle, which starts at column 0 (block 1 or 3). -/
def boxC : Fin 4 → Nat := ![0, 148, 0, 144]

/-- The block adds weighted pixels; otherwise it copies a rectangle. -/
def adds : Fin 4 → Bool := ![true, false, true, false]

/-- Two numbers added with block `b`'s weights. -/
def weigh (b : Fin 4) (u v : F .f32) : F .f32 :=
  FloatOps.addf (FloatOps.mulf (Scalar.ofBits .f32 (wA b)) u) (FloatOps.mulf (Scalar.ofBits .f32 (wB b)) v)

/-- The pixel at row `r` and column `c` of an image of block `b`, from the pixel `u` of the image itself and the pixel
    `v` of its mate at the same place. -/
def blend (b : Fin 4) (r c : Nat) (u v : F .f32) : F .f32 :=
  if adds b then weigh b u v else if boxR b ≤ r ∧ c < boxC b then v else u

/-- One if the label `p` is `k`, zero otherwise. -/
def hot (p : BitVec 32) (k : Nat) : F .f32 :=
  FloatOps.sitofp .f32 ((IntOp.cmpi .eq (BitVec.ofNat 32 k) p).setWidth 32)

/-- The block of position `n`, -/
def blk (n : Fin 64) : Fin 4 := ⟨n.val / 16, by omega⟩
/-- its row in that block, -/
def row (n : Fin 64) : Fin 16 := ⟨n.val % 16, by omega⟩
/-- position `j` of block `b`, -/
def pos (b : Fin 4) (j : Fin 16) : Fin 64 := ⟨16 * b.val + j.val, by omega⟩
/-- and the position of its mate. -/
def mate (n : Fin 64) : Fin 64 := pos (blk n) (perm (blk n) (row n))

theorem blk_pos (b : Fin 4) (j : Fin 16) : blk (pos b j) = b := by
  apply Fin.ext; simp only [blk, pos]; omega
theorem row_pos (b : Fin 4) (j : Fin 16) : row (pos b j) = j := by
  apply Fin.ext; simp only [row, pos]; omega
theorem pos_blk_row (n : Fin 64) : pos (blk n) (row n) = n := by
  apply Fin.ext; simp only [blk, row, pos]; omega

/-- The sort key of a label: one for the label 999, zero for any other. -/
def key (L : SL.Idx → BitVec 32) (n : Fin 64) : BitVec 32 :=
  (IntOp.cmpi .eq (L (Shape.Idx.ofFin n)) 999#32).setWidth 32

/-- The images' order: the position `n` of the sorted batch holds image `ord L n`, keys ascending and images of equal key
    in their old order. -/
def ord (L : SL.Idx → BitVec 32) : Fin 64 → Fin 64 :=
  sortedFrom fun k k' => IntOp.cmpi .slt (key L k) (key L k') == 1#1

/-- Image `k` of the batch at the channel, row and column of `y`. -/
def pixel {n : Nat} (X : SX.Idx → F .f32) (k : Fin 64) (y : (⟨4, ![n, 3, 224, 224]⟩ : Shape).Idx) : F .f32 :=
  X (ValueIdx.ix4 k (y 1) (y 2) (y 3))

/-- The mixed images. -/
def images (X : SX.Idx → F .f32) (L : SL.Idx → BitVec 32) : SX.Idx → F .f32 := fun y =>
  blend (blk (y 0)) (y 2).val (y 3).val (pixel X (ord L (y 0)) y) (pixel X (ord L (mate (y 0))) y)

/-- The mixed labels. -/
def labels (L : SL.Idx → BitVec 32) : SO.Idx → F .f32 := fun y =>
  weigh (blk (y 0)) (hot (L (Shape.Idx.ofFin (ord L (y 0)))) (y 1).val) (hot (L (Shape.Idx.ofFin (ord L (mate (y 0))))) (y 1).val)

end Cert.Mix

end
-- ==== Proof.Mix.Words.lean ====
/- The words of the order: what a stable sort of the keys leaves in an index vector, and reads by such words. -/
module

public import proofs.«01_k».proof.Proof.Mix.Spec
public import Idealize.ShloMosaic.Lib.StableHlo.Predicate

@[expose] public section

noncomputable section

namespace Cert.Mix

open Idealize.ShloMosaic

/-- The word that position `n` of the sorted batch holds: the number of its image. -/
def ordW (L : SL.Idx → BitVec 32) (n : Fin 64) : BitVec 32 := BitVec.ofNat 32 (ord L n).val

theorem toNat_word (k : Fin 64) : (BitVec.ofNat 32 k.val).toNat = k.val := by
  rw [BitVec.toNat_ofNat]; omega

theorem toNat_ordW (L : SL.Idx → BitVec 32) (n : Fin 64) : (ordW L n).toNat = (ord L n).val := toNat_word _

attribute [local irreducible] sortedFrom in
/-- The keys sorted with their positions: the positions come out as the order. -/
theorem sort_positions (L : SL.Idx → BitVec 32) (k : SL.Idx → BitVec 32) (hk : ∀ n, k (Shape.Idx.ofFin n) = key L n) :
    (Host.sort2 SL 0 (fun l r : BitVec 32 × BitVec 32 => IntOp.cmpi .slt l.1 r.1) k (iotaInDim SL 32 0)).2
      = fun j => ordW L (j 0) := by
  funext j
  have e : ∀ n : Fin 64, j.along (0 : Fin 1) n = Shape.Idx.ofFin n := fun n => Shape.Idx.along_rank1 j n
  have hs : (fun n n' : Fin 64 => IntOp.cmpi .slt (k (j.along (0 : Fin 1) n)) (k (j.along (0 : Fin 1) n')) == 1#1)
      = fun n n' => IntOp.cmpi .slt (key L n) (key L n') == 1#1 := by
    funext n n'
    exact congrArg₂ (fun a b => IntOp.cmpi .slt a b == 1#1) ((congrArg k (e n)).trans (hk n)) ((congrArg k (e n')).trans (hk n'))
  have hσ := congrArg (fun r => sortedFrom r (j 0 : Fin 64)) hs
  have hv := congrArg (fun i : SL.Idx => BitVec.ofNat 32 (i 0).val) (e (sortedFrom
    (fun n n' : Fin 64 => IntOp.cmpi .slt (k (j.along (0 : Fin 1) n)) (k (j.along (0 : Fin 1) n')) == 1#1) (j 0)))
  have h0 : (0 : Nat) < SL.rank := Nat.one_pos
  unfold Host.sort2
  rw [dif_pos h0]
  exact hv.trans (congrArg (fun n : Fin 64 => BitVec.ofNat 32 n.val) hσ)

/-- A word that is no negative number is left alone by the usual correction of negative indices. -/
theorem wrap_word (k : Fin 64) (n : BitVec 32) :
    Scalar.select (IntOp.cmpi .slt (BitVec.ofNat 32 k.val) 0#32) (IntOp.addi (BitVec.ofNat 32 k.val) n) (BitVec.ofNat 32 k.val)
      = BitVec.ofNat 32 k.val := by
  have : IntOp.cmpi .slt (BitVec.ofNat 32 k.val) 0#32 = 0#1 := by revert k; decide
  rw [this]; rfl

/-- A signed read of the word of `k`. -/
theorem toInt_word (k : Fin 64) : (BitVec.ofNat 32 k.val).toInt.toNat = k.val := by revert k; decide

/-- A table read at an index vector whose word at `p` is that of `k`. -/
theorem take_word {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (p : Fin n) (k : Fin N) (hN : N ≤ 64)
    (h : idx (StableHlo.Predicate.ixP p) = BitVec.ofNat 32 k.val) :
    Host.gather d x idx (Shape.Idx.ofFin p) = x (Shape.Idx.ofFin k) := by
  rw [StableHlo.Predicate.gather_take d hcoll hob hsim hivd x idx p (by have := k.isLt; omega)]
  congr 2
  apply Fin.ext
  show min (idx _).toInt.toNat (N - 1) = k.val
  rw [h, toInt_word ⟨k.val, by have := k.isLt; omega⟩]
  have := k.isLt
  show min k.val (N - 1) = k.val
  omega

end Cert.Mix

end
-- ==== Proof.KernelIdeal.Pieces.lean ====
/- The stores of the kernel's body at one grid point, as lists of pieces, and what each piece holds.

   At grid point `b` the body writes one block of 16 images and one block of 16 label rows. Its stores are listed here last
   first, over the loads that feed them; each piece then agrees with the block of the specification, and together the pieces
   fill the block. -/
module

public import proofs.«01_k».proof.Proof.Mix.Spec
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Mix (perm wA wB boxR boxC adds weigh blend hot)
open Idealize.ShloMosaic.ValueIdx

variable {F : FTy → Type} [FloatOps F]

local notation "𝕄" => MT nD τ sig Unit (Elt F) ℕ (UR sig nD τ) ℕ

/-! ## Words of the tables -/

/-- Every word read from the table `M` on core `c`, whose buffer holds `f`, is below 64. -/
def TabOk (c : Dev nD) (M : Memref sig .tc .smem S64 .i32) (f : Buf (Elt F) (M.view.loc (c : Thread nD τ))) : Prop :=
  ∀ (r : LoadRect S64) y, (M.view.readAt (Elt F) r f y : BitVec 32).toNat < 64

/-- The word of the table `M` at the offset `off`. -/
def tabAt (c : Dev nD) (M : Memref sig .tc .smem S64 .i32) (f : Buf (Elt F) (M.view.loc (c : Thread nD τ)))
    (off : Fin 1 → Nat) (h : ∀ a, off a + S1.size a ≤ S64.size a) : BitVec 32 :=
  M.view.readAt (Elt F) (Rect.unit (s := S64) off S1.size h).toLoadRect f (Shape.Idx.first (numel1_S1.symm ▸ Nat.one_pos))

/-- A word read as an index is its value. -/
theorem indexCast_toNat (w : BitVec 32) : (Scalar.indexCast w).toNat = w.toNat := rfl

/-- A word below 64 names a cell of a table of 64 words. -/
theorem off_ok (c : Dev nD) (M : Memref sig .tc .smem S64 .i32) (f : Buf (Elt F) (M.view.loc (c : Thread nD τ)))
    (h : TabOk c M f) (r : LoadRect S64) (y) :
    ∀ a, (![(Scalar.indexCast (M.view.readAt (Elt F) r f y : BitVec 32)).toNat] : Fin 1 → Nat) a + S1.size a ≤ S64.size a := by
  intro a
  obtain rfl : a = 0 := Subsingleton.elim _ _
  have h' := h r y
  have e := indexCast_toNat (M.view.readAt (Elt F) r f y)
  show (Scalar.indexCast (M.view.readAt (Elt F) r f y : BitVec 32)).toNat + 1 ≤ 64
  omega

/-- The label of the image that the table `M` names at row `j` of grid point `i`; `N` is the table of labels. -/
def labAt (c : Dev nD) (i : grid0.Coords) (M N : Memref sig .tc .smem S64 .i32) (f : Buf (Elt F) (M.view.loc (c : Thread nD τ)))
    (g : Buf (Elt F) (N.view.loc (c : Thread nD τ))) (h : TabOk c M f) (j : Fin 16) : BitVec 32 :=
  tabAt c N g ![(Scalar.indexCast (tabAt c M f (k0_off1 i (BitVec.ofNat 32 j.val)) (k0_off1_inb i j))).toNat] (off_ok c M f h _ _)

/-! ## The pieces -/

/-- The rows of a block, last first. -/
def rows : List (Fin 16) := [15, 14, 13, 12, 11, 10, 9, 8, 7, 6, 5, 4, 3, 2, 1, 0]

/-- Every row of a block is in the list of rows. -/
theorem mem_rows : ∀ j : Fin 16, j ∈ rows := by decide

/-- A rectangle of image `j` of the block: all channels, `h'` rows from row `h` and `w'` columns from column `w`. -/
abbrev imgBox (j : Fin 16) (h w h' w' : Nat) (hh : h + h' ≤ 224) (hw : w + w' ≤ 224) : Rect S16x3x224x224 :=
  Rect.unit ![j.val, 0, h, w] ![1, 3, h', w'] (by
    intro a
    match a with
    | ⟨0, _⟩ => exact j.isLt
    | ⟨1, _⟩ => exact Nat.le_refl 3
    | ⟨2, _⟩ => exact hh
    | ⟨3, _⟩ => exact hw)

/-- The same rectangle of a single image. -/
abbrev inBox (h w h' w' : Nat) (hh : h + h' ≤ 224) (hw : w + w' ≤ 224) : Rect S1x3x224x224 :=
  Rect.unit ![0, 0, h, w] ![1, 3, h', w'] (by
    intro a
    match a with
    | ⟨0, _⟩ => exact Nat.le_refl 1
    | ⟨1, _⟩ => exact Nat.le_refl 3
    | ⟨2, _⟩ => exact hh
    | ⟨3, _⟩ => exact hw)

/-- Row `j` of the block of label rows. -/
abbrev labRow (j : Fin 16) : Rect S16x1x1000 :=
  Rect.unit ![j.val, 0, 0] S1x1x1000.size (by
    intro a
    match a with
    | ⟨0, _⟩ => exact j.isLt
    | ⟨1, _⟩ => exact Nat.le_refl 1
    | ⟨2, _⟩ => exact Nat.le_refl 1000)

/-- Two images added with weights, as the body computes it. -/
def mixPay (w w' : F .f32) (a b : Vec F S1x3x224x224 .f32) : FVec F S1x3x224x224 .f32 :=
  shapeCast S1x3x224x224
    (addf (mulf (broadcast S3x224x224 w) (shapeCast S3x224x224 a shapeCasts_S1x3x224x224_S3x224x224) : FVec F S3x224x224 .f32)
      (mulf (broadcast S3x224x224 w') (shapeCast S3x224x224 b shapeCasts_S1x3x224x224_S3x224x224)))
    shapeCasts_S3x224x224_S1x3x224x224

/-- A row of 1000 numbers: one at the label `p`, zero elsewhere, as the body computes it. -/
def hotPay (p : BitVec 32) : FVec F S1x1000 .f32 :=
  sitofp .f32 (extui 32 (cmpi .eq (iota .tc S1x1000 32 [1] iota_S1x1000_d1_w32) (broadcast S1x1000 p)) natLt_1_32)

/-- Two such rows added with weights. -/
def labPay (w w' : F .f32) (p q : BitVec 32) : FVec F S1x1x1000 .f32 :=
  shapeCast S1x1x1000 (addf (mulf (broadcast S1x1000 w) (hotPay p)) (mulf (broadcast S1x1000 w') (hotPay q)) : FVec F S1x1000 .f32)
    shapeCasts_S1x1000_S1x1x1000

/-- A rectangle dropped to three axes and put back on four. -/
def copyPay (h' w' : Nat) (v : (⟨4, ![1, 3, h', w']⟩ : Shape).Idx → F .f32) : (⟨4, ![1, 3, h', w']⟩ : Shape).Idx → F .f32 :=
  shapeCast (s := ⟨3, ![3, h', w']⟩) ⟨4, ![1, 3, h', w']⟩
    (shapeCast ⟨3, ![3, h', w']⟩ v (by simp [Shape.ShapeCasts, Shape.numel, Fin.prod_univ_succ]))
    (by simp [Shape.ShapeCasts, Shape.numel, Fin.prod_univ_succ])

/-- What is loaded from the 16 staged images: image `j` through a rectangle. -/
abbrev Loads (F : FTy → Type) [FloatOps F] : Type := Fin 16 → (r : Rect S1x3x224x224) → r.shape.Idx → Elt F .f32

/-- One piece that copies a rectangle of image `k` to the same place of image `j`. -/
def copyPiece (ld : Loads F) (j k : Fin 16) (h w h' w' : Nat) (hh : h + h' ≤ 224) (hw : w + w' ≤ 224) :
    View.Piece (Elt F) S16x3x224x224 .f32 :=
  ⟨imgBox j h w h' w' hh hw, copyPay h' w' (ld k (inBox h w h' w' hh hw))⟩

/-- The pieces of a block that adds weighted images with mates `p`. -/
def mixImg (w w' : F .f32) (p : Fin 16 → Fin 16) (ld : Loads F) : List (View.Piece (Elt F) S16x3x224x224 .f32) :=
  rows.map fun j => ⟨imgBox j 0 0 224 224 (by decide) (by decide),
    mixPay w w' (ld j (inBox 0 0 224 224 (by decide) (by decide))) (ld (p j) (inBox 0 0 224 224 (by decide) (by decide)))⟩

/-- The pieces of a block that takes a rectangle from the mate: per row the rectangle, the strip to its right, and
    the rows above it. The rectangle has `h'` rows from row `h` and `w` columns; the strip has `w'`. -/
def cutImg (h h' w w' : Nat) (hh : h + h' ≤ 224) (hw : w + w' ≤ 224) (p : Fin 16 → Fin 16) (ld : Loads F) :
    List (View.Piece (Elt F) S16x3x224x224 .f32) :=
  rows.flatMap fun j => [copyPiece ld j (p j) h 0 h' w hh (by omega), copyPiece ld j j h w h' w' hh hw,
    copyPiece ld j j 0 0 h 224 (by omega) (by decide)]

/-- The pieces of a block of label rows. -/
def mixLab (w w' : F .f32) (a b : Fin 16 → BitVec 32) : List (View.Piece (Elt F) S16x1x1000 .f32) :=
  rows.map fun j => ⟨labRow j, labPay w w' (a j) (b j)⟩

/-- The pieces written into the block of images at grid point `b`. -/
def imgPieces (b : Fin 4) (ld : Loads F) : List (View.Piece (Elt F) S16x3x224x224 .f32) :=
  match b with
  | 0 => mixImg (Scalar.ofBits .f32 (wA 0)) (Scalar.ofBits .f32 (wB 0)) (perm 0) ld
  | 1 => cutImg 80 144 148 76 (by decide) (by decide) (perm 1) ld
  | 2 => mixImg (Scalar.ofBits .f32 (wA 2)) (Scalar.ofBits .f32 (wB 2)) (perm 2) ld
  | 3 => cutImg 122 102 144 80 (by decide) (by decide) (perm 3) ld

/-- The pieces written into the block of label rows at grid point `b`. -/
def labPieces (b : Fin 4) (p q : Fin 16 → BitVec 32) : List (View.Piece (Elt F) S16x1x1000 .f32) :=
  mixLab (Scalar.ofBits .f32 (wA b)) (Scalar.ofBits .f32 (wB b)) p q

/-! ## What the pieces hold -/

/-- The channel, row and column of an index of the block, as an index of a single image. -/
abbrev inner (z : S16x3x224x224.Idx) : S1x3x224x224.Idx := ValueIdx.ix4 0 (z 1) (z 2) (z 3)

/-- The block of images at grid point `b`, from the 16 staged images. -/
def imgBlock (b : Fin 4) (x : Fin 16 → Vec F S1x3x224x224 .f32) : Vec F S16x3x224x224 .f32 := fun z =>
  blend b (z 2).val (z 3).val (x (z 0) (inner z)) (x (perm b (z 0)) (inner z))

/-- The block of label rows at grid point `b`, from the labels of the 16 images and of their mates. -/
def labBlock (b : Fin 4) (p q : Fin 16 → BitVec 32) : Vec F S16x1x1000 .f32 := fun z =>
  weigh b (hot (p (z 0)) (z 2).val) (hot (q (z 0)) (z 2).val)

/-- The loads come from the images `x`. -/
def LoadsOf (ld : Loads F) (x : Fin 16 → Vec F S1x3x224x224 .f32) : Prop :=
  ∀ j r y, ld j r y = x j (r.emb y)

/-- Two weighted images added, read at a pixel. -/
theorem mixPay_apply (w w' : F .f32) (a b : Vec F S1x3x224x224 .f32) (y : S1x3x224x224.Idx) :
    mixPay w w' a b y = FloatOps.addf (FloatOps.mulf w (a y)) (FloatOps.mulf w' (b y)) := by
  have e : ∀ v : Vec F S1x3x224x224 .f32, shapeCast S3x224x224 v shapeCasts_S1x3x224x224_S3x224x224
      (Shape.reshapeEquiv shapeCasts_S3x224x224_S1x3x224x224 y) = v y := fun v =>
    congrFun (shapeCast_shapeCast v shapeCasts_S1x3x224x224_S3x224x224 shapeCasts_S3x224x224_S1x3x224x224) y
  show FloatOps.addf (FloatOps.mulf w (shapeCast S3x224x224 a _ _)) (FloatOps.mulf w' (shapeCast S3x224x224 b _ _)) = _
  rw [e, e]

/-- A copied rectangle is the rectangle itself. -/
theorem copyPay_eq (h' w' : Nat) (v : (⟨4, ![1, 3, h', w']⟩ : Shape).Idx → F .f32) : copyPay h' w' v = v :=
  shapeCast_shapeCast v _ _

end Cert.KernelIdeal.Hand

end
-- ==== Proof.KernelIdeal.Run.lean ====
/- The kernel's body at each grid point: what it stores.

   The four branches of the body are run through one tactic block. The stores come out as the lists of pieces of
   `Pieces.lean`, over the loads of the staged images and the words of the three tables. -/
module

public import proofs.«01_k».proof.Proof.KernelIdeal.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Mix (perm wA wB boxR boxC adds weigh blend hot)

variable {F : FTy → Type} [FloatOps F]

local notation "𝕄" => MT nD τ sig Unit (Elt F) ℕ (UR sig nD τ) ℕ

variable (c : Dev nD) (i : grid0.Coords)
  (arg1 : Memref sig .tc .smem S64 .i32) (harg1 : arg1.IsWhole) (arg2 : Memref sig .tc .smem S64 .i32) (harg2 : arg2.IsWhole) (arg3 : Memref sig .tc .smem S64 .i32) (harg3 : arg3.IsWhole) (arg4 : Memref sig .tc .vmem S1x3x224x224 .f32) (harg4 : arg4.IsWhole) (arg5 : Memref sig .tc .vmem S1x3x224x224 .f32) (harg5 : arg5.IsWhole) (arg6 : Memref sig .tc .vmem S1x3x224x224 .f32) (harg6 : arg6.IsWhole) (arg7 : Memref sig .tc .vmem S1x3x224x224 .f32) (harg7 : arg7.IsWhole) (arg8 : Memref sig .tc .vmem S1x3x224x224 .f32) (harg8 : arg8.IsWhole) (arg9 : Memref sig .tc .vmem S1x3x224x224 .f32) (harg9 : arg9.IsWhole) (arg10 : Memref sig .tc .vmem S1x3x224x224 .f32) (harg10 : arg10.IsWhole) (arg11 : Memref sig .tc .vmem S1x3x224x224 .f32) (harg11 : arg11.IsWhole) (arg12 : Memref sig .tc .vmem S1x3x224x224 .f32) (harg12 : arg12.IsWhole) (arg13 : Memref sig .tc .vmem S1x3x224x224 .f32) (harg13 : arg13.IsWhole) (arg14 : Memref sig .tc .vmem S1x3x224x224 .f32) (harg14 : arg14.IsWhole) (arg15 : Memref sig .tc .vmem S1x3x224x224 .f32) (harg15 : arg15.IsWhole) (arg16 : Memref sig .tc .vmem S1x3x224x224 .f32) (harg16 : arg16.IsWhole) (arg17 : Memref sig .tc .vmem S1x3x224x224 .f32) (harg17 : arg17.IsWhole) (arg18 : Memref sig .tc .vmem S1x3x224x224 .f32) (harg18 : arg18.IsWhole) (arg19 : Memref sig .tc .vmem S1x3x224x224 .f32) (harg19 : arg19.IsWhole) (arg20 : Memref sig .tc .vmem S16x3x224x224 .f32) (harg20 : arg20.IsWhole) (arg21 : Memref sig .tc .vmem S16x1x1000 .f32) (harg21 : arg21.IsWhole)
  (f1 : Buf (Elt F) (arg1.view.loc (c : Thread nD τ))) (f2 : Buf (Elt F) (arg2.view.loc (c : Thread nD τ)))
  (f3 : Buf (Elt F) (arg3.view.loc (c : Thread nD τ))) (x : Fin 16 → Vec F S1x3x224x224 .f32)

/-- The loads of the 16 staged images, when image `j` holds `x j`. -/
def loads : Loads F := ![fun r => arg4.view.readAt (Elt F) r.toLoadRect (harg4.unread (x 0)), fun r => arg5.view.readAt (Elt F) r.toLoadRect (harg5.unread (x 1)), fun r => arg6.view.readAt (Elt F) r.toLoadRect (harg6.unread (x 2)), fun r => arg7.view.readAt (Elt F) r.toLoadRect (harg7.unread (x 3)), fun r => arg8.view.readAt (Elt F) r.toLoadRect (harg8.unread (x 4)), fun r => arg9.view.readAt (Elt F) r.toLoadRect (harg9.unread (x 5)), fun r => arg10.view.readAt (Elt F) r.toLoadRect (harg10.unread (x 6)), fun r => arg11.view.readAt (Elt F) r.toLoadRect (harg11.unread (x 7)), fun r => arg12.view.readAt (Elt F) r.toLoadRect (harg12.unread (x 8)), fun r => arg13.view.readAt (Elt F) r.toLoadRect (harg13.unread (x 9)), fun r => arg14.view.readAt (Elt F) r.toLoadRect (harg14.unread (x 10)), fun r => arg15.view.readAt (Elt F) r.toLoadRect (harg15.unread (x 11)), fun r => arg16.view.readAt (Elt F) r.toLoadRect (harg16.unread (x 12)), fun r => arg17.view.readAt (Elt F) r.toLoadRect (harg17.unread (x 13)), fun r => arg18.view.readAt (Elt F) r.toLoadRect (harg18.unread (x 14)), fun r => arg19.view.readAt (Elt F) r.toLoadRect (harg19.unread (x 15))]

/-- The loads come from the staged images. -/
theorem loads_of : LoadsOf (loads arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) x := by
  intro j r y
  fin_cases j <;> exact congrFun (Memref.IsWhole.read_unread (by assumption) _) _

set_option maxHeartbeats 16000000 in
/-- The body at grid point `b`, from the three tables, the 16 staged images and the two blocks of the results with anything
    in them, ends with the tables and images as they were and the pieces of `imgPieces` and `labPieces` stored. -/
theorem body_run (b : Fin 4) (hw1 : TabOk c arg1 f1) (hw2 : TabOk c arg2 f2) (h1 : k0_cond1 i = 1#1 ↔ b = 0)
    (h2 : k0_cond2 i = 1#1 ↔ b = 1) (h3 : k0_cond3 i = 1#1 ↔ b = 2) (h4 : k0_cond4 i = 1#1 ↔ b = 3) :
    ∃ L : List (View.Piece (Elt F) S16x3x224x224 .f32) × List (View.Piece (Elt F) S16x1x1000 .f32),
      L = (imgPieces b (loads arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x), labPieces b (labAt c i arg1 arg3 f1 f3 hw1) (labAt c i arg2 arg3 f2 f3 hw2)) ∧
      ∀ (E : Set ℕ) (K : PUnit → sProp 𝕄),
        iprop((arg1.view.loc (c : Thread nD τ) ↦{fullShare.right} f1) ∗ (arg2.view.loc (c : Thread nD τ) ↦{fullShare.right} f2) ∗ (arg3.view.loc (c : Thread nD τ) ↦{fullShare.right} f3) ∗ owns (c : Thread nD τ) arg4 fullShare (x 0) ∗ owns (c : Thread nD τ) arg5 fullShare (x 1) ∗ owns (c : Thread nD τ) arg6 fullShare (x 2) ∗ owns (c : Thread nD τ) arg7 fullShare (x 3) ∗ owns (c : Thread nD τ) arg8 fullShare (x 4) ∗ owns (c : Thread nD τ) arg9 fullShare (x 5) ∗ owns (c : Thread nD τ) arg10 fullShare (x 6) ∗ owns (c : Thread nD τ) arg11 fullShare (x 7) ∗ owns (c : Thread nD τ) arg12 fullShare (x 8) ∗ owns (c : Thread nD τ) arg13 fullShare (x 9) ∗ owns (c : Thread nD τ) arg14 fullShare (x 10) ∗ owns (c : Thread nD τ) arg15 fullShare (x 11) ∗ owns (c : Thread nD τ) arg16 fullShare (x 12) ∗ owns (c : Thread nD τ) arg17 fullShare (x 13) ∗ owns (c : Thread nD τ) arg18 fullShare (x 14) ∗ owns (c : Thread nD τ) arg19 fullShare (x 15) ∗ (∃ d, owns (c : Thread nD τ) arg20 fullShare d) ∗ (∃ d, owns (c : Thread nD τ) arg21 fullShare d)
            ∗ (iprop((arg1.view.loc (c : Thread nD τ) ↦{fullShare.right} f1) ∗ (arg2.view.loc (c : Thread nD τ) ↦{fullShare.right} f2) ∗ (arg3.view.loc (c : Thread nD τ) ↦{fullShare.right} f3) ∗ owns (c : Thread nD τ) arg4 fullShare (x 0) ∗ owns (c : Thread nD τ) arg5 fullShare (x 1) ∗ owns (c : Thread nD τ) arg6 fullShare (x 2) ∗ owns (c : Thread nD τ) arg7 fullShare (x 3) ∗ owns (c : Thread nD τ) arg8 fullShare (x 4) ∗ owns (c : Thread nD τ) arg9 fullShare (x 5) ∗ owns (c : Thread nD τ) arg10 fullShare (x 6) ∗ owns (c : Thread nD τ) arg11 fullShare (x 7) ∗ owns (c : Thread nD τ) arg12 fullShare (x 8) ∗ owns (c : Thread nD τ) arg13 fullShare (x 9) ∗ owns (c : Thread nD τ) arg14 fullShare (x 10) ∗ owns (c : Thread nD τ) arg15 fullShare (x 11) ∗ owns (c : Thread nD τ) arg16 fullShare (x 12) ∗ owns (c : Thread nD τ) arg17 fullShare (x 13) ∗ owns (c : Thread nD τ) arg18 fullShare (x 14) ∗ owns (c : Thread nD τ) arg19 fullShare (x 15) ∗ (∃ f, arg20.view.loc (c : Thread nD τ) ↦[arg20.view.set]{fullShare} arg20.view.writes (Elt F) f L.1) ∗ (∃ f, arg21.view.loc (c : Thread nD τ) ↦[arg21.view.set]{fullShare} arg21.view.writes (Elt F) f L.2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have hb : b = 0 ∨ b = 1 ∨ b = 2 ∨ b = 3 := by omega
  rcases hb with rfl | rfl | rfl | rfl
  all_goals
    first | replace h1 := h1.2 rfl | replace h1 := mt h1.1 (by decide)
    first | replace h2 := h2.2 rfl | replace h2 := mt h2.1 (by decide)
    first | replace h3 := h3.2 rfl | replace h3 := mt h3.1 (by decide)
    first | replace h4 := h4.2 rfl | replace h4 := mt h4.1 (by decide)
    refine ⟨(?_, ?_), ?eq, fun E K => ?run⟩
    case run =>
      simp only [cc0__body_eq_skeleton]; unfold cc0__body_skel
      unfold owns
      iintro ⟨T1, T2, T3, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%g14, %hg14, H14⟩, ⟨%g15, %hg15, H15⟩, ⟨%g16, %hg16, H16⟩, ⟨%g17, %hg17, H17⟩, ⟨%g18, %hg18, H18⟩, ⟨%g19, %hg19, H19⟩, ⟨%d20, %g20, -, H20⟩, ⟨%d21, %g21, -, H21⟩, Hk⟩
      obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12; obtain rfl := harg13.eq_unread hg13; obtain rfl := harg14.eq_unread hg14; obtain rfl := harg15.eq_unread hg15; obtain rfl := harg16.eq_unread hg16; obtain rfl := harg17.eq_unread hg17; obtain rfl := harg18.eq_unread hg18; obtain rfl := harg19.eq_unread hg19
      sl_exec_parts (disch := exact fun _ => off_ok _ _ _ (by assumption) _ _)
      sl_step
      iapply Hk
      isplitl [T1]; · iexact T1
      isplitl [T2]; · iexact T2
      isplitl [T3]; · iexact T3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      isplitl [H16]
      · iexists _; isplitr; · ipureintro; exact harg16.read_unread _
        iexact H16
      isplitl [H17]
      · iexists _; isplitr; · ipureintro; exact harg17.read_unread _
        iexact H17
      isplitl [H18]
      · iexists _; isplitr; · ipureintro; exact harg18.read_unread _
        iexact H18
      isplitl [H19]
      · iexists _; isplitr; · ipureintro; exact harg19.read_unread _
        iexact H19
      isplitl [H20]; · iexists _; iexact H20
      iexists _; iexact H21
    case eq => rfl

end Cert.KernelIdeal.Hand

end
-- ==== Proof.KernelIdeal.Blocks.lean ====
/- What the stored pieces hold: each agrees with the block of the specification, and together they fill it. -/
module

public import proofs.«01_k».proof.Proof.KernelIdeal.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Mix (perm wA wB boxR boxC adds weigh blend hot)
open Idealize.ShloMosaic.ValueIdx

variable {F : FTy → Type} [FloatOps F]

local notation "𝕄" => MT nD τ sig Unit (Elt F) ℕ (UR sig nD τ) ℕ

/-- A row of label weights at one class. -/
theorem labPay_at (w w' : F .f32) (p q : BitVec 32) (y : S1x1x1000.Idx) :
    labPay w w' p q y = FloatOps.addf (FloatOps.mulf w (hot p (y 2).val)) (FloatOps.mulf w' (hot q (y 2).val)) := by
  have e : Shape.reshapeEquiv shapeCasts_S1x1000_S1x1x1000 y = (ValueIdx.ix2 (0 : Fin 1) (y 2) : S1x1000.Idx) := by
    apply Shape.reshapeEquiv_eq_of_rowMajor
    have h0 : (y 0).val < 1 := (y 0).isLt
    have h1 : (y 1).val < 1 := (y 1).isLt
    refine (Shape.rowMajor_val_two (d := ![1, 1000]) _).trans (Eq.trans ?_ (Shape.rowMajor_val_three (d := ![1, 1, 1000]) _).symm)
    show 0 * 1000 + (y 2).val = ((y 0).val * 1 + (y 1).val) * 1000 + (y 2).val
    omega
  have hh : ∀ r : BitVec 32, (hotPay r : FVec F S1x1000 .f32) (ValueIdx.ix2 (0 : Fin 1) (y 2)) = hot r (y 2).val := by
    intro r
    have hi : iota .tc S1x1000 32 [1] iota_S1x1000_d1_w32 (ValueIdx.ix2 (0 : Fin 1) (y 2)) = BitVec.ofNat 32 (y 2).val := by
      rw [iota_apply]; simp [ValueIdx.ix2]
    show FloatOps.sitofp .f32 ((IntOp.cmpi .eq (iota .tc S1x1000 32 [1] iota_S1x1000_d1_w32 _) r).setWidth 32) = _
    rw [hi]; rfl
  show FloatOps.addf (FloatOps.mulf w ((hotPay p : FVec F S1x1000 .f32) (Shape.reshapeEquiv _ y)))
    (FloatOps.mulf w' ((hotPay q : FVec F S1x1000 .f32) (Shape.reshapeEquiv _ y))) = _
  rw [e, hh, hh]

/-! ## Images -/

/-- An index of a rectangle of image `j`, in the block. -/
theorem imgBox_emb (j : Fin 16) (h w h' w' : Nat) (hh : h + h' ≤ 224) (hw : w + w' ≤ 224) (y : (⟨4, ![1, 3, h', w']⟩ : Shape).Idx) :
    (imgBox j h w h' w' hh hw).emb y 0 = j ∧ inner ((imgBox j h w h' w' hh hw).emb y) = (inBox h w h' w' hh hw).emb y := by
  have h0 : (y 0).val < 1 := (y 0).isLt
  refine ⟨Fin.ext (by show j.val + 1 * (y 0).val = j.val; omega), funext fun a => Fin.ext ?_⟩
  match a with
  | ⟨0, _⟩ => show 0 = 0 + 1 * (y 0).val; omega
  | ⟨1, _⟩ => rfl
  | ⟨2, _⟩ => rfl
  | ⟨3, _⟩ => rfl

/-- Which indices of the block a rectangle of image `j` holds. -/
theorem mem_imgBox (h w h' w' : Nat) (hh : h + h' ≤ 224) (hw : w + w' ≤ 224) (z : S16x3x224x224.Idx)
    (hr : h ≤ (z 2).val ∧ (z 2).val < h + h') (hc : w ≤ (z 3).val ∧ (z 3).val < w + w') :
    z ∈ (imgBox (z 0) h w h' w' hh hw).set := by
  refine Rect.mem_set_unit.mpr fun a => ?_
  match a with
  | ⟨0, _⟩ => exact ⟨le_refl _, Nat.lt_succ_self _⟩
  | ⟨1, _⟩ => exact ⟨Nat.zero_le _, (Nat.zero_add 3).symm ▸ (z 1).isLt⟩
  | ⟨2, _⟩ => exact hr
  | ⟨3, _⟩ => exact hc

/-- A piece that copies from image `k` to image `j` agrees with the block where the block takes its pixel from `k`. -/
theorem copy_agrees (b : Fin 4) (ld : Loads F) (x : Fin 16 → Vec F S1x3x224x224 .f32) (hld : LoadsOf ld x) (j k : Fin 16) (h w h' w' : Nat)
    (hh : h + h' ≤ 224) (hw : w + w' ≤ 224)
    (hk : ∀ r c, h ≤ r → r < h + h' → w ≤ c → c < w + w' → ∀ u : Fin 16 → F .f32, blend b r c (u j) (u (perm b j)) = u k) :
    ∀ y, (copyPiece ld j k h w h' w' hh hw).2 y = imgBlock b x ((copyPiece ld j k h w h' w' hh hw).1.emb y) := by
  intro y
  obtain ⟨e0, e1⟩ := imgBox_emb j h w h' w' hh hw y
  have h2 : (y 2).val < h' := (y 2).isLt
  have h3 : (y 3).val < w' := (y 3).isLt
  show copyPay h' w' (ld k (inBox h w h' w' hh hw)) y = imgBlock b x ((imgBox j h w h' w' hh hw).emb y)
  refine (congrFun (copyPay_eq h' w' _) y).trans ((hld k (inBox h w h' w' hh hw) y).trans ?_)
  unfold imgBlock
  rw [e0, e1]
  exact (hk (h + 1 * (y 2).val) (w + 1 * (y 3).val) (by omega) (by omega) (by omega) (by omega) (fun j => x j ((inBox h w h' w' hh hw).emb y))).symm

/-- The pieces of a block that adds weighted images. -/
theorem mix_agrees (b : Fin 4) (hb : adds b = true) (ld : Loads F) (x : Fin 16 → Vec F S1x3x224x224 .f32) (hld : LoadsOf ld x) :
    (∀ p ∈ mixImg (Scalar.ofBits .f32 (wA b)) (Scalar.ofBits .f32 (wB b)) (perm b) ld, ∀ y, p.2 y = imgBlock b x (p.1.emb y))
    ∧ ∀ z, ∃ p ∈ mixImg (Scalar.ofBits .f32 (wA b)) (Scalar.ofBits .f32 (wB b)) (perm b) ld, z ∈ p.1.set := by
  constructor
  · intro p hp y
    obtain ⟨j, -, rfl⟩ := List.mem_map.mp hp
    obtain ⟨e0, e1⟩ := imgBox_emb j 0 0 224 224 (by decide) (by decide) y
    show mixPay _ _ _ _ y = imgBlock b x ((imgBox j 0 0 224 224 (by decide) (by decide)).emb y)
    rw [mixPay_apply, hld, hld]
    unfold imgBlock blend weigh
    rw [e0, e1, hb]
    rfl
  · intro z
    exact ⟨_, List.mem_map.mpr ⟨z 0, mem_rows _, rfl⟩, mem_imgBox 0 0 224 224 (by decide) (by decide) z
      ⟨Nat.zero_le _, by have : (z 2).val < 224 := (z 2).isLt; omega⟩ ⟨Nat.zero_le _, by have : (z 3).val < 224 := (z 3).isLt; omega⟩⟩

/-- The pieces of a block that takes a rectangle from the mate. -/
theorem cut_agrees (b : Fin 4) (hb : adds b = false) (h h' w w' : Nat) (hh : h + h' = 224) (hw : w + w' = 224)
    (hr : boxR b = h) (hc : boxC b = w) (ld : Loads F) (x : Fin 16 → Vec F S1x3x224x224 .f32) (hld : LoadsOf ld x) :
    (∀ p ∈ cutImg h h' w w' (le_of_eq hh) (le_of_eq hw) (perm b) ld, ∀ y, p.2 y = imgBlock b x (p.1.emb y))
    ∧ ∀ z, ∃ p ∈ cutImg h h' w w' (le_of_eq hh) (le_of_eq hw) (perm b) ld, z ∈ p.1.set := by
  constructor
  · intro p hp
    obtain ⟨j, -, hp⟩ := List.mem_flatMap.mp hp
    simp only [List.mem_cons, List.not_mem_nil, or_false] at hp
    rcases hp with rfl | rfl | rfl <;> refine copy_agrees b ld x hld _ _ _ _ _ _ _ _ (fun r c h1 h2 h3 h4 u => ?_) <;>
      unfold blend <;> rw [hb, hr, hc, if_neg Bool.false_ne_true]
    · exact if_pos ⟨h1, by omega⟩
    · exact if_neg (by omega)
    · exact if_neg (by omega)
  · intro z
    have h2 : (z 2).val < 224 := (z 2).isLt
    have h3 : (z 3).val < 224 := (z 3).isLt
    have hm : ∀ p, p ∈ [copyPiece ld (z 0) (perm b (z 0)) h 0 h' w (le_of_eq hh) (by omega), copyPiece ld (z 0) (z 0) h w h' w' (le_of_eq hh) (le_of_eq hw),
        copyPiece ld (z 0) (z 0) 0 0 h 224 (by omega) (by decide)] → p ∈ cutImg h h' w w' (le_of_eq hh) (le_of_eq hw) (perm b) ld :=
      fun p hp => List.mem_flatMap.mpr ⟨z 0, mem_rows _, hp⟩
    by_cases hr' : h ≤ (z 2).val
    · by_cases hc' : (z 3).val < w
      · exact ⟨_, hm _ (List.mem_cons_self), mem_imgBox h 0 h' w (le_of_eq hh) (by omega) z (by omega) (by omega)⟩
      · exact ⟨_, hm _ (List.mem_cons_of_mem _ List.mem_cons_self), mem_imgBox h w h' w' (le_of_eq hh) (le_of_eq hw) z (by omega) (by omega)⟩
    · exact ⟨_, hm _ (List.mem_cons_of_mem _ (List.mem_cons_of_mem _ List.mem_cons_self)), mem_imgBox 0 0 h 224 (by omega) (by decide) z (by omega) (by omega)⟩

/-- The stored images are the block of the specification. -/
theorem img_block (b : Fin 4) (ld : Loads F) (x : Fin 16 → Vec F S1x3x224x224 .f32) (hld : LoadsOf ld x) :
    (∀ p ∈ imgPieces b ld, ∀ y, p.2 y = imgBlock b x (p.1.emb y)) ∧ ∀ z, ∃ p ∈ imgPieces b ld, z ∈ p.1.set :=
  match b with
  | 0 => mix_agrees 0 rfl ld x hld
  | 1 => cut_agrees 1 rfl 80 144 148 76 rfl rfl rfl rfl ld x hld
  | 2 => mix_agrees 2 rfl ld x hld
  | 3 => cut_agrees 3 rfl 122 102 144 80 rfl rfl rfl rfl ld x hld

/-! ## Labels -/

/-- The stored label rows are the block of the specification. -/
theorem lab_block (b : Fin 4) (p q : Fin 16 → BitVec 32) :
    (∀ pc ∈ labPieces (F := F) b p q, ∀ y, pc.2 y = labBlock b p q (pc.1.emb y)) ∧ ∀ z, ∃ pc ∈ labPieces (F := F) b p q, z ∈ pc.1.set := by
  constructor
  · intro pc hp y
    obtain ⟨j, -, rfl⟩ := List.mem_map.mp hp
    have h0 : (y 0).val < 1 := (y 0).isLt
    have e0 : (labRow j).emb y 0 = j := Fin.ext (by show j.val + 1 * (y 0).val = j.val; omega)
    have e2 : ((labRow j).emb y 2).val = (y 2).val := by show 0 + 1 * (y 2).val = (y 2).val; omega
    show labPay _ _ (p j) (q j) y = labBlock b p q ((labRow j).emb y)
    rw [labPay_at]
    unfold labBlock weigh
    rw [e0, e2]
  · intro z
    refine ⟨_, List.mem_map.mpr ⟨z 0, mem_rows _, rfl⟩, ?_⟩
    show z ∈ (labRow (z 0)).set
    refine Rect.mem_set_unit.mpr fun a => ?_
    match a with
    | ⟨0, _⟩ => exact ⟨le_refl _, Nat.lt_succ_self _⟩
    | ⟨1, _⟩ => exact ⟨Nat.zero_le _, (Nat.zero_add 1).symm ▸ (z 1).isLt⟩
    | ⟨2, _⟩ => exact ⟨Nat.zero_le _, (Nat.zero_add 1000).symm ▸ (z 2).isLt⟩

end Cert.KernelIdeal.Hand

end
-- ==== Proof.KernelIdeal.Kit.lean ====
/- The launch around the kernel's one region: the host operations before and after it, the three tables it is handed, and
   the blocks its windows stage. -/
module

public import proofs.«01_k».proof.Proof.KernelIdeal.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the region -/

/-- The host operations before the region. -/
abbrev pre : List (List (HloOp τ sig (Elt F))) := [hostOps0, hostOps0_1, hostOps0_2]

/-- Core `c`'s buffers when the region is entered. -/
abbrev V0 (c : Dev nD) : Valuation τ sig (Elt F) := StableHlo.after (List.flatten pre) (fun b => m (c, b))
/-- The same, at one of the core's references. -/
abbrev V (c : Dev nD) (b : Ref sig .tc) : Buf (Elt F) ((c : Thread nD τ).loc b) := V0 m c (Proc.devRef .tc b)

/-- No host operation allocates. -/
theorem ops_fresh : (List.Forall (fun ops => List.Forall (fun op : HloOp τ sig (Elt F) => op.fresh = ∅) ops) pre) ∧
    (hostOps1 : List (HloOp τ sig (Elt F))).Forall fun op => op.fresh = ∅ := by
  simp only [List.Forall]; repeat' constructor

set_option maxHeartbeats 800000 in
/-- @main is the host operations, the region, and one host operation after it. -/
theorem hmain (𝒱₀ : Variants) : Pipeline.HMainPK (Ix := Unit) (Name := ℕ) (U := UR sig nD τ) (Lvl := ℕ) pcfgs 0 defs₀ 𝒱₀ m
    (main (F := F)) (V m) (fun _ => Pipeline.chain ([hostOps1].map StableHlo.seq)) :=
  Pipeline.hmainP_around pcfgs 0 defs₀ 𝒱₀ m main pre [hostOps1]
    (by simp only [List.Forall]; exact ⟨hostOps0_sub, hostOps0_1_sub, hostOps0_2_sub⟩) ops_fresh.1 main_chain

/-- The operation after the region: a reshape of the block of label rows. -/
theorem mem_tail {op : HloOp τ sig (Elt F)} (hop : op ∈ hostOps1) {p : HloOp τ sig (Elt F) → Prop}
    (h : (hostOps1 : List (HloOp τ sig (Elt F))).Forall p) : p op :=
  List.forall_iff_forall_mem.mp h op hop

/-- The operation after the region touches no table. -/
theorem tail_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op (mem_tail hop hostOps1_sub) ?_
  obtain rfl := List.mem_singleton.mp hop
  intro j
  fin_cases j <;> simp only [StableHlo.reshape_bufs, Finset.mem_insert, Finset.mem_singleton, not_or] <;> and_intros <;>
    exact StableHlo.devRef_ne_of_ne (by decide)

/-- The host operation after the region determines what it writes. -/
theorem tail_fresh : ∀ ops ∈ ([hostOps1] : List (List (HloOp τ sig (Elt F)))), ∀ op ∈ ops, op.fresh = ∅ := by
  intro ops hops op hop
  obtain rfl := List.mem_singleton.mp hops
  exact mem_tail hop ops_fresh.2

/-- The operation after the region writes no array of a window. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  fin_cases w <;> simp only [StableHlo.reshape_writes, Finset.mem_singleton] <;> exact StableHlo.devRef_ne_of_ne (by decide)

/-- A buffer that no host operation before the region writes is found as launched. -/
theorem V_of_unwritten (c : Dev nD) (b : Ref sig .tc)
    (h : (List.flatten (pre (F := F))).Forall fun op => Proc.devRef .tc b ∉ op.writes) : V m c b = m ((c : Thread nD τ).loc b) :=
  StableHlo.after_of_forall_not_mem (b := Proc.devRef .tc b) _ _ (List.forall_iff_forall_mem.mp h)

/-- The two arguments are found as launched. -/
theorem V_args (c : Dev nD) : V m c main_arg0 = m ((c : Thread nD τ).loc main_arg0) ∧ V m c main_arg1 = m ((c : Thread nD τ).loc main_arg1) := by
  constructor <;> refine V_of_unwritten m c _ ?_ <;>
    simp only [pre, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton] <;>
    (repeat' apply And.intro) <;> exact StableHlo.devRef_ne_of_ne (by decide)

/-! ## The tables -/

/-- The tables' contents when the region is entered. -/
def tbl : pre0.Contents (Elt F) := fun j => V m (0 : Dev nD) (pre0.ref j)

/-- When the region is entered, the arrays of the tables hold the tables. -/
theorem V_tbl (c : Dev nD) (j : Fin 3) : V m c (pre0.ref j) = tbl m j := by
  obtain rfl : c = 0 := Subsingleton.elim _ _; rfl

/-- Every block that a table names lies inside the array. -/
abbrev Ok : Prop := ok0 (F := F) (tbl m)
/-- The tables as the launch admits them, -/
abbrev adm (hO : Ok m) : (pcfg0 (F := F)).Adm := ⟨tbl m, hO⟩
/-- and the launch over them. -/
abbrev cfgM (hO : Ok m) : Pipeline.Cfg sig Λ₀ := cfg0 (adm m hO)

/-- The table of the order as the body is handed it. -/
abbrev tOrd : Memref sig .tc .smem S64 .i32 := Memref.whole main_v3
/-- The table of the mates, -/
abbrev tMate : Memref sig .tc .smem S64 .i32 := Memref.whole main_v10
/-- and that of the labels. -/
abbrev tLab : Memref sig .tc .smem S64 .i32 := Memref.whole main_arg1

/-- The contents of a table's buffer on core `c`. -/
abbrev TabBuf (c : Dev nD) (M : Memref sig .tc .smem S64 .i32) : Type := Buf (Elt F) (M.view.loc (c : Thread nD τ))

/-- A table's buffer held at half its share. -/
abbrev tabHeld (c : Dev nD) (M : Memref sig .tc .smem S64 .i32) (f : TabBuf (F := F) c M) : sProp 𝕄 :=
  M.view.loc (c : Thread nD τ) ↦{fullShare.right} f

/-- The halves of the tables, one by one. -/
theorem tables_eq (c : Dev nD) : (Pipeline.ΦT pre0 (tbl m) c : sProp 𝕄)
    = iprop(tabHeld c tOrd (tbl m 0) ∗ tabHeld c tMate (tbl m 1) ∗ tabHeld c tLab (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The 16 staged images at point `t`. -/
def imgs (hO : Ok m) (c : Dev nD) (t : Fin (cfgM m hO).N) : Fin 16 → Vec F S1x3x224x224 .f32 :=
  ![iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t]

/-- The words of the order and of the mates name images. -/
structure Words (c : Dev nD) : Prop where
  ord : TabOk c tOrd (tbl m 0)
  mate : TabOk c tMate (tbl m 1)

/-- The proof data of the region: the arrays as it finds them; after the body at point `t` every input's buffer holds its
    block, and the two results' buffers hold the blocks of the specification. -/
def dats (hO : Ok m) (hW : ∀ c, Words m c) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => imgBlock (grid0.coords t 0) (imgs m hO c t)
    | ⟨17, _⟩ => labBlock (grid0.coords t 0) (labAt c (grid0.coords t) tOrd tLab (tbl m 0) (tbl m 2) (hW c).ord)
        (labAt c (grid0.coords t) tMate tLab (tbl m 1) (tbl m 2) (hW c).mate)
    | ⟨_ + 18, h⟩ => absurd h (Nat.not_lt.2 (Nat.le_add_left _ _))
  Φ _ := iprop(Pipeline.ΦA spec0 c ∗ Pipeline.ΦT pre0 (tbl m) c)
  q w := if (spec0 w).isOut then fullShare else Pipeline.shareOf spec0 w
  owed _ := 0

variable (hO : Ok m) (hW : ∀ c, Words m c)

/-- What a window starts from is what its array holds when the region is entered. -/
theorem A_eq (c : Dev nD) (w : Fin (cfgM m hO).W) : (dats m hO hW 0 c).A w = V m c (Pipeline.arrRef spec0 w) := by
  dsimp only [dats]

/-- The body leaves an input's block in its buffer. -/
theorem after_input (c : Dev nD) (w : Fin 18) (hw : w.val < 16) (t : Fin (cfgM m hO).N) :
    (dats m hO hW 0 c).after w t = iblk m hO c w t := by
  obtain ⟨w, h18⟩ := w
  interval_cases w <;> dsimp only [dats] <;> rfl

/-- What the fetch of a window puts in its buffer, when nothing of its block is cut. -/
theorem before_of_uncut (c : Dev nD) (w : Fin 18) (hw : w.val < 16) (hin : ((cfgM m hO).win w).isOut = false)
    (hi : ∀ i, (cfgM m hO).idle w i = false)
    (hclip : ∀ i i' : grid0.Coords, ((cfgM m hO).win w).clip i = ((cfgM m hO).win w).clip i')
    (hfill : ∀ t d, ((cfgM m hO).win w).fill ((cfgM m hO).grid.coords t) d (iblk m hO c w t) = iblk m hO c w t)
    (hcut : ∀ t, ((cfgM m hO).win w).cut ((cfgM m hO).grid.coords t) (iblk m hO c w t) = iblk m hO c w t)
    (t : Fin (cfgM m hO).N) (d) : (dats m hO hW 0 c).before w t d = iblk m hO c w t :=
  ((dats m hO hW 0 c).before_in_eq_fetched w hin hi (fun _ _ _ => hclip _ _)
    (fun t => by rw [after_input m hO hW c w hw, hcut]; unfold Dat.blockOf iblk; rw [A_eq]) t d).trans
    ((congrArg (((cfgM m hO).win w).fill ((cfgM m hO).grid.coords t) d) (by unfold Dat.blockOf iblk; rw [A_eq])).trans (hfill t d))

set_option maxHeartbeats 1000000 in
/-- An input's buffer holds its block when the body is called. -/
theorem before_input (c : Dev nD) (w : Fin 18) (hw : w.val < 16) (t : Fin (cfgM m hO).N) (d) :
    (dats m hO hW 0 c).before w t d = iblk m hO c w t := by
  obtain ⟨w, h18⟩ := w
  interval_cases w <;>
    exact before_of_uncut m hO hW c _ hw rfl (fun _ => rfl) (fun _ _ => rfl) (fun _ _ => rfl) (fun _ => rfl) t d

end Cert.KernelIdeal.Hand

end
-- ==== Proof.KernelIdeal.Body.lean ====
/- The kernel's body at every grid point, as the pipeline calls it: it leaves the inputs' buffers and the tables as they
   were and the two blocks of the specification in the results' buffers. -/
module

public import proofs.«01_k».proof.Proof.KernelIdeal.Run
public import proofs.«01_k».proof.Proof.KernelIdeal.Blocks
public import proofs.«01_k».proof.Proof.KernelIdeal.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- A buffer with pieces stored that agree with `G` and fill it holds `G`. -/
theorem owns_of_pieces {s : Shape} {e : EltTy} (c : Dev nD) (M : Memref sig .tc .vmem s e) (L : List (View.Piece (Elt F) s e))
    (G : s.Idx → Elt F e) (ha : ∀ p ∈ L, ∀ y, p.2 y = G (p.1.emb y)) (hc : ∀ z, ∃ p ∈ L, z ∈ p.1.set) :
    iprop(∃ f, M.view.loc (c : Thread nD τ) ↦[M.view.set]{fullShare} M.view.writes (Elt F) f L) ⊢ (owns (c : Thread nD τ) M fullShare G : sProp 𝕄) := by
  unfold owns
  iintro ⟨%f, H⟩
  iexists (M.view.writes (Elt F) f L)
  isplitr
  · ipureintro; exact funext fun y => View.read_writes_apply_of_pieces _ _ _ _ ha y (hc y)
  iexact H

section
variable (c : Dev nD) (i : grid0.Coords)
  (arg1 : Memref sig .tc .smem S64 .i32) (harg1 : arg1.IsWhole) (arg2 : Memref sig .tc .smem S64 .i32) (harg2 : arg2.IsWhole) (arg3 : Memref sig .tc .smem S64 .i32) (harg3 : arg3.IsWhole) (arg4 : Memref sig .tc .vmem S1x3x224x224 .f32) (harg4 : arg4.IsWhole) (arg5 : Memref sig .tc .vmem S1x3x224x224 .f32) (harg5 : arg5.IsWhole) (arg6 : Memref sig .tc .vmem S1x3x224x224 .f32) (harg6 : arg6.IsWhole) (arg7 : Memref sig .tc .vmem S1x3x224x224 .f32) (harg7 : arg7.IsWhole) (arg8 : Memref sig .tc .vmem S1x3x224x224 .f32) (harg8 : arg8.IsWhole) (arg9 : Memref sig .tc .vmem S1x3x224x224 .f32) (harg9 : arg9.IsWhole) (arg10 : Memref sig .tc .vmem S1x3x224x224 .f32) (harg10 : arg10.IsWhole) (arg11 : Memref sig .tc .vmem S1x3x224x224 .f32) (harg11 : arg11.IsWhole) (arg12 : Memref sig .tc .vmem S1x3x224x224 .f32) (harg12 : arg12.IsWhole) (arg13 : Memref sig .tc .vmem S1x3x224x224 .f32) (harg13 : arg13.IsWhole) (arg14 : Memref sig .tc .vmem S1x3x224x224 .f32) (harg14 : arg14.IsWhole) (arg15 : Memref sig .tc .vmem S1x3x224x224 .f32) (harg15 : arg15.IsWhole) (arg16 : Memref sig .tc .vmem S1x3x224x224 .f32) (harg16 : arg16.IsWhole) (arg17 : Memref sig .tc .vmem S1x3x224x224 .f32) (harg17 : arg17.IsWhole) (arg18 : Memref sig .tc .vmem S1x3x224x224 .f32) (harg18 : arg18.IsWhole) (arg19 : Memref sig .tc .vmem S1x3x224x224 .f32) (harg19 : arg19.IsWhole) (arg20 : Memref sig .tc .vmem S16x3x224x224 .f32) (harg20 : arg20.IsWhole) (arg21 : Memref sig .tc .vmem S16x1x1000 .f32) (harg21 : arg21.IsWhole)
  (f1 : Buf (Elt F) (arg1.view.loc (c : Thread nD τ))) (f2 : Buf (Elt F) (arg2.view.loc (c : Thread nD τ)))
  (f3 : Buf (Elt F) (arg3.view.loc (c : Thread nD τ))) (x : Fin 16 → Vec F S1x3x224x224 .f32)

set_option maxHeartbeats 2000000 in
/-- The body at grid point `b`, from the three tables, the 16 staged images and the two blocks of the results with anything
    in them, ends with the tables and images as they were and the blocks of the specification in the results' buffers. -/
theorem body_ends (b : Fin 4) (hw1 : TabOk c arg1 f1) (hw2 : TabOk c arg2 f2) (h1 : k0_cond1 i = 1#1 ↔ b = 0)
    (h2 : k0_cond2 i = 1#1 ↔ b = 1) (h3 : k0_cond3 i = 1#1 ↔ b = 2) (h4 : k0_cond4 i = 1#1 ↔ b = 3) (E : Set ℕ) (K : PUnit → sProp 𝕄) :
    iprop((arg1.view.loc (c : Thread nD τ) ↦{fullShare.right} f1) ∗ (arg2.view.loc (c : Thread nD τ) ↦{fullShare.right} f2) ∗ (arg3.view.loc (c : Thread nD τ) ↦{fullShare.right} f3) ∗ owns (c : Thread nD τ) arg4 fullShare (x 0) ∗ owns (c : Thread nD τ) arg5 fullShare (x 1) ∗ owns (c : Thread nD τ) arg6 fullShare (x 2) ∗ owns (c : Thread nD τ) arg7 fullShare (x 3) ∗ owns (c : Thread nD τ) arg8 fullShare (x 4) ∗ owns (c : Thread nD τ) arg9 fullShare (x 5) ∗ owns (c : Thread nD τ) arg10 fullShare (x 6) ∗ owns (c : Thread nD τ) arg11 fullShare (x 7) ∗ owns (c : Thread nD τ) arg12 fullShare (x 8) ∗ owns (c : Thread nD τ) arg13 fullShare (x 9) ∗ owns (c : Thread nD τ) arg14 fullShare (x 10) ∗ owns (c : Thread nD τ) arg15 fullShare (x 11) ∗ owns (c : Thread nD τ) arg16 fullShare (x 12) ∗ owns (c : Thread nD τ) arg17 fullShare (x 13) ∗ owns (c : Thread nD τ) arg18 fullShare (x 14) ∗ owns (c : Thread nD τ) arg19 fullShare (x 15) ∗ (∃ d, owns (c : Thread nD τ) arg20 fullShare d) ∗ (∃ d, owns (c : Thread nD τ) arg21 fullShare d)
        ∗ (iprop((arg1.view.loc (c : Thread nD τ) ↦{fullShare.right} f1) ∗ (arg2.view.loc (c : Thread nD τ) ↦{fullShare.right} f2) ∗ (arg3.view.loc (c : Thread nD τ) ↦{fullShare.right} f3) ∗ owns (c : Thread nD τ) arg4 fullShare (x 0) ∗ owns (c : Thread nD τ) arg5 fullShare (x 1) ∗ owns (c : Thread nD τ) arg6 fullShare (x 2) ∗ owns (c : Thread nD τ) arg7 fullShare (x 3) ∗ owns (c : Thread nD τ) arg8 fullShare (x 4) ∗ owns (c : Thread nD τ) arg9 fullShare (x 5) ∗ owns (c : Thread nD τ) arg10 fullShare (x 6) ∗ owns (c : Thread nD τ) arg11 fullShare (x 7) ∗ owns (c : Thread nD τ) arg12 fullShare (x 8) ∗ owns (c : Thread nD τ) arg13 fullShare (x 9) ∗ owns (c : Thread nD τ) arg14 fullShare (x 10) ∗ owns (c : Thread nD τ) arg15 fullShare (x 11) ∗ owns (c : Thread nD τ) arg16 fullShare (x 12) ∗ owns (c : Thread nD τ) arg17 fullShare (x 13) ∗ owns (c : Thread nD τ) arg18 fullShare (x 14) ∗ owns (c : Thread nD τ) arg19 fullShare (x 15) ∗ owns (c : Thread nD τ) arg20 fullShare (imgBlock b x) ∗ owns (c : Thread nD τ) arg21 fullShare
          (labBlock b (labAt c i arg1 arg3 f1 f3 hw1) (labAt c i arg2 arg3 f2 f3 hw2))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨L, rfl, h⟩ := body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 x b hw1 hw2 h1 h2 h3 h4
  obtain ⟨a20, c20⟩ := img_block b (loads arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) x (loads_of arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x)
  obtain ⟨a21, c21⟩ := lab_block (F := F) b (labAt c i arg1 arg3 f1 f3 hw1) (labAt c i arg2 arg3 f2 f3 hw2)
  iintro ⟨T1, T2, T3, H4, H5, H6, H7, H8, H9, H10, H11, H12, H13, H14, H15, H16, H17, H18, H19, H20, H21, Hk⟩
  iapply (h E K)
  iframe T1 T2 T3 H4 H5 H6 H7 H8 H9 H10 H11 H12 H13 H14 H15 H16 H17 H18 H19 H20 H21
  iintro ⟨T1, T2, T3, H4, H5, H6, H7, H8, H9, H10, H11, H12, H13, H14, H15, H16, H17, H18, H19, ⟨%f20, H20⟩, ⟨%f21, H21⟩⟩
  iapply Hk
  iframe T1 T2 T3 H4 H5 H6 H7 H8 H9 H10 H11 H12 H13 H14 H15 H16 H17 H18 H19
  isplitl [H20]
  · iapply (owns_of_pieces c arg20 _ _ a20 c20); iexists f20; iexact H20
  · iapply (owns_of_pieces c arg21 _ _ a21 c21); iexists f21; iexact H21
end

/-! ## The obligation -/

/-- The word a branch tests at point `k`: whether `k` is `v`. -/
def branchWord (k : Fin 4) (v : BitVec 32) : BitVec 1 :=
  Scalar.cmpi .ne (Scalar.extui (Scalar.cmpi .eq (BitVec.ofNat 32 k.val) v) : BitVec 32) 0#32

/-- Which branch runs at a grid point. -/
theorem branch : ∀ i : grid0.Coords, (k0_cond1 i = 1#1 ↔ i 0 = (0 : Fin 4)) ∧ (k0_cond2 i = 1#1 ↔ i 0 = (1 : Fin 4))
    ∧ (k0_cond3 i = 1#1 ↔ i 0 = (2 : Fin 4)) ∧ (k0_cond4 i = 1#1 ↔ i 0 = (3 : Fin 4)) := by
  have key : ∀ k : Fin 4, (branchWord k 0#32 = 1#1 ↔ k = 0) ∧ (branchWord k 1#32 = 1#1 ↔ k = 1)
      ∧ (branchWord k 2#32 = 1#1 ↔ k = 2) ∧ (branchWord k 3#32 = 1#1 ↔ k = 3) := by
    decide +kernel
  exact fun i => key (i 0)

variable (m : (ℓ : Loc nD τ sig) → Buf (Elt F) ℓ) (hO : Ok m) (hW : ∀ c, Words m c)

/-- Window `w`'s buffer at point `t`. -/
abbrev stg (t : Fin (cfgM m hO).N) (w : Fin 18) := ((cfgM m hO).win w).stage ((cfgM m hO).slots t w)

/-- The body as the pipeline calls it at point `t`. -/
abbrev bodyAt (t : Fin (cfgM m hO).N) : Prog (TpuEff nD τ sig (Elt F) Λ₀ .tc) PUnit :=
  cc0__body (grid0.coords t) tOrd (Memref.isWhole_whole _) tMate (Memref.isWhole_whole _) tLab (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))
    (spec0_8.stage ((cfgM m hO).slots t 8)) (hstage0_8 (((cfgM m hO).slots t 8).cast nbuf0_8))
    (spec0_9.stage ((cfgM m hO).slots t 9)) (hstage0_9 (((cfgM m hO).slots t 9).cast nbuf0_9))
    (spec0_10.stage ((cfgM m hO).slots t 10)) (hstage0_10 (((cfgM m hO).slots t 10).cast nbuf0_10))
    (spec0_11.stage ((cfgM m hO).slots t 11)) (hstage0_11 (((cfgM m hO).slots t 11).cast nbuf0_11))
    (spec0_12.stage ((cfgM m hO).slots t 12)) (hstage0_12 (((cfgM m hO).slots t 12).cast nbuf0_12))
    (spec0_13.stage ((cfgM m hO).slots t 13)) (hstage0_13 (((cfgM m hO).slots t 13).cast nbuf0_13))
    (spec0_14.stage ((cfgM m hO).slots t 14)) (hstage0_14 (((cfgM m hO).slots t 14).cast nbuf0_14))
    (spec0_15.stage ((cfgM m hO).slots t 15)) (hstage0_15 (((cfgM m hO).slots t 15).cast nbuf0_15))
    (spec0_16.stage ((cfgM m hO).slots t 16)) (hstage0_16 (((cfgM m hO).slots t 16).cast nbuf0_16))
    (spec0_17.stage ((cfgM m hO).slots t 17)) (hstage0_17 (((cfgM m hO).slots t 17).cast nbuf0_17))

/-- An input's buffer as the body finds it holds the window's block. -/
theorem held_before (c : Dev nD) (w : Fin 18) (hw : w.val < 16) (t : Fin (cfgM m hO).N) (d) :
    (owns (c : Thread nD τ) (stg m hO t w) fullShare ((dats m hO hW 0 c).before w t d) : sProp 𝕄)
      ⊢ owns (c : Thread nD τ) (stg m hO t w) fullShare (iblk m hO c w t) := by
  rw [before_input m hO hW c w hw t d]

/-- An input's buffer holding the window's block is as the body leaves it. -/
theorem held_after (c : Dev nD) (w : Fin 18) (hw : w.val < 16) (t : Fin (cfgM m hO).N) :
    (owns (c : Thread nD τ) (stg m hO t w) fullShare (iblk m hO c w t) : sProp 𝕄)
      ⊢ owns (c : Thread nD τ) (stg m hO t w) fullShare ((dats m hO hW 0 c).after w t) := by
  rw [after_input m hO hW c w hw t]

/-- What the body finds: the tables, and every window's buffer with the fetched block or anything in it. -/
def bodyPre (c : Dev nD) (t : Fin (cfgM m hO).N) : sProp 𝕄 :=
  iprop((dats m hO hW 0 c).Φ t.castSucc ∗ (dats m hO hW 0 c).owesAt () t.castSucc
    ∗ (∃ d, owns (c : Thread nD τ) (stg m hO t 0) fullShare ((dats m hO hW 0 c).before 0 t d)) ∗ (∃ d, owns (c : Thread nD τ) (stg m hO t 1) fullShare ((dats m hO hW 0 c).before 1 t d)) ∗ (∃ d, owns (c : Thread nD τ) (stg m hO t 2) fullShare ((dats m hO hW 0 c).before 2 t d)) ∗ (∃ d, owns (c : Thread nD τ) (stg m hO t 3) fullShare ((dats m hO hW 0 c).before 3 t d)) ∗ (∃ d, owns (c : Thread nD τ) (stg m hO t 4) fullShare ((dats m hO hW 0 c).before 4 t d)) ∗ (∃ d, owns (c : Thread nD τ) (stg m hO t 5) fullShare ((dats m hO hW 0 c).before 5 t d)) ∗ (∃ d, owns (c : Thread nD τ) (stg m hO t 6) fullShare ((dats m hO hW 0 c).before 6 t d)) ∗ (∃ d, owns (c : Thread nD τ) (stg m hO t 7) fullShare ((dats m hO hW 0 c).before 7 t d)) ∗ (∃ d, owns (c : Thread nD τ) (stg m hO t 8) fullShare ((dats m hO hW 0 c).before 8 t d)) ∗ (∃ d, owns (c : Thread nD τ) (stg m hO t 9) fullShare ((dats m hO hW 0 c).before 9 t d)) ∗ (∃ d, owns (c : Thread nD τ) (stg m hO t 10) fullShare ((dats m hO hW 0 c).before 10 t d)) ∗ (∃ d, owns (c : Thread nD τ) (stg m hO t 11) fullShare ((dats m hO hW 0 c).before 11 t d)) ∗ (∃ d, owns (c : Thread nD τ) (stg m hO t 12) fullShare ((dats m hO hW 0 c).before 12 t d)) ∗ (∃ d, owns (c : Thread nD τ) (stg m hO t 13) fullShare ((dats m hO hW 0 c).before 13 t d)) ∗ (∃ d, owns (c : Thread nD τ) (stg m hO t 14) fullShare ((dats m hO hW 0 c).before 14 t d)) ∗ (∃ d, owns (c : Thread nD τ) (stg m hO t 15) fullShare ((dats m hO hW 0 c).before 15 t d)) ∗ (∃ d, owns (c : Thread nD τ) (stg m hO t 16) fullShare ((dats m hO hW 0 c).before 16 t d)) ∗ (∃ d, owns (c : Thread nD τ) (stg m hO t 17) fullShare ((dats m hO hW 0 c).before 17 t d)))

/-- What it leaves. -/
def bodyPost (c : Dev nD) (t : Fin (cfgM m hO).N) : sProp 𝕄 :=
  iprop((dats m hO hW 0 c).Φ t.succ ∗ (dats m hO hW 0 c).owesAt () t.succ
    ∗ owns (c : Thread nD τ) (stg m hO t 0) fullShare ((dats m hO hW 0 c).after 0 t) ∗ owns (c : Thread nD τ) (stg m hO t 1) fullShare ((dats m hO hW 0 c).after 1 t) ∗ owns (c : Thread nD τ) (stg m hO t 2) fullShare ((dats m hO hW 0 c).after 2 t) ∗ owns (c : Thread nD τ) (stg m hO t 3) fullShare ((dats m hO hW 0 c).after 3 t) ∗ owns (c : Thread nD τ) (stg m hO t 4) fullShare ((dats m hO hW 0 c).after 4 t) ∗ owns (c : Thread nD τ) (stg m hO t 5) fullShare ((dats m hO hW 0 c).after 5 t) ∗ owns (c : Thread nD τ) (stg m hO t 6) fullShare ((dats m hO hW 0 c).after 6 t) ∗ owns (c : Thread nD τ) (stg m hO t 7) fullShare ((dats m hO hW 0 c).after 7 t) ∗ owns (c : Thread nD τ) (stg m hO t 8) fullShare ((dats m hO hW 0 c).after 8 t) ∗ owns (c : Thread nD τ) (stg m hO t 9) fullShare ((dats m hO hW 0 c).after 9 t) ∗ owns (c : Thread nD τ) (stg m hO t 10) fullShare ((dats m hO hW 0 c).after 10 t) ∗ owns (c : Thread nD τ) (stg m hO t 11) fullShare ((dats m hO hW 0 c).after 11 t) ∗ owns (c : Thread nD τ) (stg m hO t 12) fullShare ((dats m hO hW 0 c).after 12 t) ∗ owns (c : Thread nD τ) (stg m hO t 13) fullShare ((dats m hO hW 0 c).after 13 t) ∗ owns (c : Thread nD τ) (stg m hO t 14) fullShare ((dats m hO hW 0 c).after 14 t) ∗ owns (c : Thread nD τ) (stg m hO t 15) fullShare ((dats m hO hW 0 c).after 15 t) ∗ owns (c : Thread nD τ) (stg m hO t 16) fullShare ((dats m hO hW 0 c).after 16 t) ∗ owns (c : Thread nD τ) (stg m hO t 17) fullShare ((dats m hO hW 0 c).after 17 t))

set_option maxHeartbeats 4000000 in
theorem sound_body (c : Dev nD) (t : Fin (cfgM m hO).N) :
    bodyPre m hO hW c t ⊢ wp frame (wpE (defs₀ (F := F)) Variants.none c none) Set.univ (bodyAt m hO t) (fun _ => bodyPost m hO hW c t) := by
  unfold bodyPre bodyPost
  rw [show (dats m hO hW 0 c).Φ t.succ = iprop(Pipeline.ΦA spec0 c ∗ Pipeline.ΦT pre0 (tbl m) c) from rfl,
    show (dats m hO hW 0 c).Φ t.castSucc = iprop(Pipeline.ΦA spec0 c ∗ Pipeline.ΦT pre0 (tbl m) c) from rfl, tables_eq,
    show (dats m hO hW 0 c).owesAt () t.succ = (dats m hO hW 0 c).owesAt () t.castSucc from rfl]
  obtain ⟨b1, b2, b3, b4⟩ := branch (grid0.coords t)
  iintro ⟨⟨HA, T1, T2, T3⟩, Ho, ⟨%d0, H4⟩, ⟨%d1, H5⟩, ⟨%d2, H6⟩, ⟨%d3, H7⟩, ⟨%d4, H8⟩, ⟨%d5, H9⟩, ⟨%d6, H10⟩, ⟨%d7, H11⟩, ⟨%d8, H12⟩, ⟨%d9, H13⟩, ⟨%d10, H14⟩, ⟨%d11, H15⟩, ⟨%d12, H16⟩, ⟨%d13, H17⟩, ⟨%d14, H18⟩, ⟨%d15, H19⟩, ⟨%d16, H20⟩, ⟨%d17, H21⟩⟩
  iapply (body_ends c (grid0.coords t) tOrd (Memref.isWhole_whole _) tMate (Memref.isWhole_whole _) tLab (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))
    (spec0_8.stage ((cfgM m hO).slots t 8)) (hstage0_8 (((cfgM m hO).slots t 8).cast nbuf0_8))
    (spec0_9.stage ((cfgM m hO).slots t 9)) (hstage0_9 (((cfgM m hO).slots t 9).cast nbuf0_9))
    (spec0_10.stage ((cfgM m hO).slots t 10)) (hstage0_10 (((cfgM m hO).slots t 10).cast nbuf0_10))
    (spec0_11.stage ((cfgM m hO).slots t 11)) (hstage0_11 (((cfgM m hO).slots t 11).cast nbuf0_11))
    (spec0_12.stage ((cfgM m hO).slots t 12)) (hstage0_12 (((cfgM m hO).slots t 12).cast nbuf0_12))
    (spec0_13.stage ((cfgM m hO).slots t 13)) (hstage0_13 (((cfgM m hO).slots t 13).cast nbuf0_13))
    (spec0_14.stage ((cfgM m hO).slots t 14)) (hstage0_14 (((cfgM m hO).slots t 14).cast nbuf0_14))
    (spec0_15.stage ((cfgM m hO).slots t 15)) (hstage0_15 (((cfgM m hO).slots t 15).cast nbuf0_15))
    (spec0_16.stage ((cfgM m hO).slots t 16)) (hstage0_16 (((cfgM m hO).slots t 16).cast nbuf0_16))
    (spec0_17.stage ((cfgM m hO).slots t 17)) (hstage0_17 (((cfgM m hO).slots t 17).cast nbuf0_17))
    (tbl m 0) (tbl m 1) (tbl m 2) (imgs m hO c t) (grid0.coords t 0) (hW c).ord (hW c).mate b1 b2 b3 b4 Set.univ _)
  isplitl [T1]; · iexact T1
  isplitl [T2]; · iexact T2
  isplitl [T3]; · iexact T3
  isplitl [H4]; · iapply (held_before m hO hW c 0 (by decide) t d0); iexact H4
  isplitl [H5]; · iapply (held_before m hO hW c 1 (by decide) t d1); iexact H5
  isplitl [H6]; · iapply (held_before m hO hW c 2 (by decide) t d2); iexact H6
  isplitl [H7]; · iapply (held_before m hO hW c 3 (by decide) t d3); iexact H7
  isplitl [H8]; · iapply (held_before m hO hW c 4 (by decide) t d4); iexact H8
  isplitl [H9]; · iapply (held_before m hO hW c 5 (by decide) t d5); iexact H9
  isplitl [H10]; · iapply (held_before m hO hW c 6 (by decide) t d6); iexact H10
  isplitl [H11]; · iapply (held_before m hO hW c 7 (by decide) t d7); iexact H11
  isplitl [H12]; · iapply (held_before m hO hW c 8 (by decide) t d8); iexact H12
  isplitl [H13]; · iapply (held_before m hO hW c 9 (by decide) t d9); iexact H13
  isplitl [H14]; · iapply (held_before m hO hW c 10 (by decide) t d10); iexact H14
  isplitl [H15]; · iapply (held_before m hO hW c 11 (by decide) t d11); iexact H15
  isplitl [H16]; · iapply (held_before m hO hW c 12 (by decide) t d12); iexact H16
  isplitl [H17]; · iapply (held_before m hO hW c 13 (by decide) t d13); iexact H17
  isplitl [H18]; · iapply (held_before m hO hW c 14 (by decide) t d14); iexact H18
  isplitl [H19]; · iapply (held_before m hO hW c 15 (by decide) t d15); iexact H19
  isplitl [H20]; · iexists _; iexact H20
  isplitl [H21]; · iexists _; iexact H21
  iintro ⟨T1, T2, T3, H4, H5, H6, H7, H8, H9, H10, H11, H12, H13, H14, H15, H16, H17, H18, H19, H20, H21⟩
  isplitl [HA T1 T2 T3]
  · isplitl [HA]; · iexact HA
    isplitl [T1]; · iexact T1
    isplitl [T2]; · iexact T2
    iexact T3
  isplitl [Ho]; · iexact Ho
  isplitl [H4]; · iapply (held_after m hO hW c 0 (by decide) t); iexact H4
  isplitl [H5]; · iapply (held_after m hO hW c 1 (by decide) t); iexact H5
  isplitl [H6]; · iapply (held_after m hO hW c 2 (by decide) t); iexact H6
  isplitl [H7]; · iapply (held_after m hO hW c 3 (by decide) t); iexact H7
  isplitl [H8]; · iapply (held_after m hO hW c 4 (by decide) t); iexact H8
  isplitl [H9]; · iapply (held_after m hO hW c 5 (by decide) t); iexact H9
  isplitl [H10]; · iapply (held_after m hO hW c 6 (by decide) t); iexact H10
  isplitl [H11]; · iapply (held_after m hO hW c 7 (by decide) t); iexact H11
  isplitl [H12]; · iapply (held_after m hO hW c 8 (by decide) t); iexact H12
  isplitl [H13]; · iapply (held_after m hO hW c 9 (by decide) t); iexact H13
  isplitl [H14]; · iapply (held_after m hO hW c 10 (by decide) t); iexact H14
  isplitl [H15]; · iapply (held_after m hO hW c 11 (by decide) t); iexact H15
  isplitl [H16]; · iapply (held_after m hO hW c 12 (by decide) t); iexact H16
  isplitl [H17]; · iapply (held_after m hO hW c 13 (by decide) t); iexact H17
  isplitl [H18]; · iapply (held_after m hO hW c 14 (by decide) t); iexact H18
  isplitl [H19]; · iapply (held_after m hO hW c 15 (by decide) t); iexact H19
  isplitl [H20]; · iexact H20
  iexact H21

end Cert.KernelIdeal.Hand

end
-- ==== Proof.KernelIdeal.Launch.lean ====
/- The kernel's run: every execution ends, with the arrays at what the blocks of the specification add up to. -/
module

public import proofs.«01_k».proof.Proof.KernelIdeal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (hW : ∀ c, Words m c)

/-- The function the pipeline calls is the body. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- Every window takes part at every point. -/
theorem idle_eq (w : Fin 18) (i : grid0.Coords) : (cfgM m hO).idle w i = false := by
  have h : ∀ i : grid0.Coords, (!(k0_cond1 i == 1#1) && !(k0_cond2 i == 1#1) && !(k0_cond3 i == 1#1) && !(k0_cond4 i == 1#1)) = false := by
    intro i
    obtain ⟨b1, b2, b3, b4⟩ := branch i
    have hk : ∀ k : Fin 4, k = 0 ∨ k = 1 ∨ k = 2 ∨ k = 3 := by decide
    rcases hk (i 0) with e | e | e | e
    · rw [b1.2 e]; rfl
    · rw [b2.2 e]; simp
    · rw [b3.2 e]; simp
    · rw [b4.2 e]; simp
  fin_cases w
  all_goals first | rfl | exact h i

set_option maxHeartbeats 4000000 in
/-- The library's obligation on the body, at every point. -/
theorem body_obligation (c : Dev nD) :
    BodyObligation (dats (F := F) m hO hW 0 c) (defs₀ (F := F)) Variants.none () Set.univ := fun t => by
  refine triple_restated (sound_body m hO hW c t) (by rw [defs₀_row]) ?_ fun _ => ?_
  · rw [bigSep_W0]; exact .rfl
  · refine .trans ?_ (sep_mono .rfl (sep_mono .rfl (bigSep_mono (Φ := fun w => owns (c : Thread nD τ) (stg m hO t w) fullShare ((dats m hO hW 0 c).after w t)) fun w _ => ?_)))
    · rw [bigSep_W0]; exact .rfl
    · have e := idle_eq m hO w ((cfgM m hO).grid.coords t)
      revert e
      generalize (cfgM m hO).idle w ((cfgM m hO).grid.coords t) = b
      rintro rfl
      exact (show (owns (c : Thread nD τ) (stg m hO t w) fullShare ((dats m hO hW 0 c).after w t) : sProp 𝕄) ⊢ owns (c : Thread nD τ) (stg m hO t w) fullShare ((dats m hO hW 0 c).after w t) from .rfl)

/-! ## The run -/

/-- The buffers when the program ends. -/
abbrev Wend (c : Dev nD) (b : Ref sig .tc) : Buf (Elt F) ((c.tc : Thread nD τ).loc b) :=
  Pipeline.afterTail pcfgs (fun _ => adm m hO) (dats m hO hW) 0 (V0 m) [hostOps1] c b

set_option backward.isDefEq.respectTransparency.types false in
/-- Every execution ends, with the arrays of the windows at what the write-backs make of them, every other buffer as the
    operations around the region leave it, and every counter at zero. -/
theorem run : θ_run defs (onTc (τ := τ) (main (F := F))) ⟨m, fun _ => 0, ρ⟩ (fun r =>
    Pipeline.FramePost (Pipeline.pin pcfgs fun _ => adm m hO) (dats m hO hW) 0 (Wend m hO hW) r ∧ r.2.sem = fun _ => 0) :=
  Pipeline.θ_run_frameP_around_track_shared (Q' := _) pcfgs (fun _ => adm m hO) (dats m hO hW) (0 : Fin 1) launch₀0 defs₀ Variants.none m ρ main
    (hbody := fun c => (body_obligation m hO hW c).loose)
    (hq := fun c w h => if_neg fun e => Bool.false_ne_true (h.symm.trans e))
    (howed := fun _ _ => rfl) (V₀ := V0 m) (opss := [hostOps1]) (hsub := tail_sub) (hfresh := tail_fresh) (hkeep := tail_keeps)
    (hmain := hmain m Variants.none) (hA := A_eq m hO hW) (hpf := fun c k => V_tbl m c k) (hin := fun _ => .rfl)
    (hout := fun c => sep_elim_left) (hQ' := fun _ h => h)

/-- The operation after the region leaves the labels as launched. -/
theorem Wend_labels (c : Dev nD) : Wend m hO hW c main_arg1 = m ((c : Thread nD τ).loc main_arg1) := by
  unfold Wend Pipeline.afterTail
  rw [StableHlo.after_of_forall_not_mem (b := Proc.devRef .tc main_arg1) _ _ (by
      intro op hop
      simp only [List.flatten_cons, List.flatten_nil, List.append_nil] at hop
      obtain rfl := List.mem_singleton.mp hop
      simp only [StableHlo.reshape_writes, Finset.mem_singleton]
      exact StableHlo.devRef_ne_of_ne (by decide)),
    Pipeline.withArrays_of_ne _ c (V0 m c) _ main_arg1 (by exact (by decide : ∀ w, Pipeline.arrRef spec0 w ≠ main_arg1))]
  exact (V_args m c).2

/-- The arguments end unchanged. -/
theorem args_kept {r : PUnit × MemSt nD τ sig (Elt F)}
    (h : Pipeline.FramePost (Pipeline.pin pcfgs fun _ => adm m hO) (dats m hO hW) 0 (Wend m hO hW) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 15).trans (((dats m hO hW 0 c).arrAt_in 15 rfl _).trans ((A_eq m hO hW c 15).trans (V_args m c).1)),
    ((h c).2 main_arg1 (by decide : main_arg1 ∈ Pipeline.restRefs sig spec0)).trans (Wend_labels m hO hW c)⟩

end Cert.KernelIdeal.Hand

end
-- ==== Proof.KernelIdeal.Tables.lean ====
/- The tables the region finds: the order and the mates, as words, and what follows for the blocks they name. -/
module

public import proofs.«01_k».proof.Proof.Mix.Words
public import proofs.«01_k».proof.Proof.KernelIdeal.Kit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Mix (perm ordW ord mate pos blk row)

variable {F : FTy → Type} [FloatOps F]

local notation "𝕄" => MT nD τ sig Unit (Elt F) ℕ (UR sig nD τ) ℕ

variable (m : (ℓ : Loc nD τ sig) → Buf (Elt F) ℓ)

/-- The labels as launched. -/
abbrev labs (c : Dev nD) : Cert.Mix.SL.Idx → BitVec 32 := m ((c : Thread nD τ).loc main_arg1)

/-- The constant table of mates. -/
theorem lit_mate : ∀ n : Fin 64, lit0 n = BitVec.ofNat 32 (mate n).val := by decide +kernel

/-- The order the host computed. -/
theorem V_ord (c : Dev nD) : V m c main_v3 = fun j => ordW (labs m c) (j 0) := by
  refine Eq.trans ?_ (Cert.Mix.sort_positions (labs m c)
    (fun j => (IntOp.cmpi .eq (labs m c j) 999#32).setWidth 32) (fun _ => rfl))
  show StableHlo.after _ _ _ = _
  simp only [pre, List.flatten_cons, List.flatten_nil, List.append_nil, List.cons_append, List.nil_append]
  after_results
  rfl

set_option maxHeartbeats 1000000 in
/-- The table of mates the host computed: at each position, the word of its mate's image. -/
theorem V_mate (c : Dev nD) : V m c main_v10 = fun j => ordW (labs m c) (mate (j 0)) := by
  have h : V m c main_v10 = Host.gather gather_S64_S64x1_S64_n_0_n_n_0_1_1
      (Host.sort2 S64 0 comparator_i32_i32_d0 (fun j => (IntOp.cmpi .eq (labs m c j) 999#32).setWidth 32) (iotaInDim S64 32 0)).2
      (broadcastInDim S64x1 ![0] bcast_S64_S64x1_0 (fun j => Scalar.select (IntOp.cmpi .slt (lit0 (S64.rowMajor j)) 0#32)
        (IntOp.addi (lit0 (S64.rowMajor j)) 64#32) (lit0 (S64.rowMajor j)))) := by
    show StableHlo.after _ _ _ = _
    simp only [pre, List.flatten_cons, List.flatten_nil, List.append_nil, List.cons_append, List.nil_append]
    after_results
    rfl
  have hs : (Host.sort2 S64 0 comparator_i32_i32_d0 (fun j => (IntOp.cmpi .eq (labs m c j) 999#32).setWidth 32) (iotaInDim S64 32 0)).2
      = fun j => ordW (labs m c) (j 0) :=
    Cert.Mix.sort_positions (labs m c) (fun j => (IntOp.cmpi .eq (labs m c j) 999#32).setWidth 32) (fun _ => rfl)
  rw [h, hs]
  funext j
  rw [Shape.Idx.eq_ofFin j]
  refine Cert.Mix.take_word _ rfl rfl rfl rfl _ _ _ (mate (j 0)) (le_refl 64) ?_
  have e : S64.rowMajor (Shape.Idx.ofFin (j 0)) = j 0 := Fin.ext (Shape.rowMajor_val_one (d := ![64]) _)
  show Scalar.select (IntOp.cmpi .slt (lit0 (S64.rowMajor (Shape.Idx.ofFin (j 0)))) 0#32) (IntOp.addi (lit0 (S64.rowMajor (Shape.Idx.ofFin (j 0)))) 64#32)
    (lit0 (S64.rowMajor (Shape.Idx.ofFin (j 0)))) = _
  rw [e]
  exact (congrArg (fun w => Scalar.select (IntOp.cmpi .slt w 0#32) (IntOp.addi w 64#32) w) (lit_mate (j 0))).trans (Cert.Mix.wrap_word _ _)

/-- The words of the order and of the mates name images. -/
theorem words (c : Dev nD) : Words m c where
  ord := fun r y => by
    obtain rfl : c = 0 := Subsingleton.elim _ _
    show ((V m 0 main_v3 : Cert.Mix.SL.Idx → BitVec 32) _).toNat < 64
    rw [V_ord]
    exact lt_of_eq_of_lt (Cert.Mix.toNat_ordW _ _) (Fin.isLt _)
  mate := fun r y => by
    obtain rfl : c = 0 := Subsingleton.elim _ _
    show ((V m 0 main_v10 : Cert.Mix.SL.Idx → BitVec 32) _).toNat < 64
    rw [V_mate]
    exact lt_of_eq_of_lt (Cert.Mix.toNat_ordW _ _) (Fin.isLt _)

/-- Row `j` of grid point `i` is position `pos (i 0) j` of the order. -/
theorem off_pos : ∀ (i : grid0.Coords) (j : Fin 16), k0_off1 i (BitVec.ofNat 32 j.val) 0 = (pos (i 0) j).val := by
  decide +kernel

/-- The index that the one-cell rectangle at an offset names. -/
theorem cell (off : Fin 1 → Nat) (h : ∀ a, off a + S1.size a ≤ S64.size a) (k : Fin 64) (hk : off 0 = k.val) (y : S1.Idx) :
    ((Rect.unit (s := S64) off S1.size h).emb y : Cert.Mix.SL.Idx) 0 = k := by
  apply Fin.ext
  show off 0 + 1 * (y 0).val = k.val
  have : (y 0).val < 1 := (y 0).isLt
  omega

/-- The first block coordinate of the images' windows: the word of the order at row `j` of the grid point. -/
def trans (j : Fin 16) (pf : pre0.Contents (Elt F)) (i : grid0.Coords) : Fin 4 → Nat :=
  ![(pf.at 0 (Rect.unit (s := S64) (k0_off1 i (BitVec.ofNat 32 j.val)) S1.size (k0_off1_inb i j)) numel1_S1 : BitVec 32).toNat, 0, 0, 0]

/-- That coordinate is the number of the image. -/
theorem trans_eq (j : Fin 16) (i : grid0.Coords) :
    trans j (tbl m) i = ![(ord (labs m 0) (pos (i 0) j)).val, 0, 0, 0] := by
  have h : (V m 0 main_v3 : Cert.Mix.SL.Idx → BitVec 32)
      ((Rect.unit (s := S64) (k0_off1 i (BitVec.ofNat 32 j.val)) S1.size (k0_off1_inb i j)).emb (Shape.Idx.first (numel1_S1.symm ▸ Nat.one_pos)))
      = ordW (labs m 0) (pos (i 0) j) := by
    rw [V_ord]
    exact congrArg (ordW (labs m 0)) (cell _ _ _ (off_pos i j) _)
  exact congrArg (fun n : Nat => (![n, 0, 0, 0] : Fin 4 → Nat)) ((congrArg BitVec.toNat h).trans (Cert.Mix.toNat_ordW _ _))

/-- The block it names lies inside the array. -/
theorem trans_ok (j : Fin 16) (i : grid0.Coords) : ∃ h : (∀ a, (trans j (tbl m) i a + 1) * S1x3x224x224.size a ≤ S64x3x224x224.size a),
    EltTy.bits .f32 = 32 ∨ (Rect.block (s := S64x3x224x224) S1x3x224x224.size (trans j (tbl m) i) h).WholeWords (EltTy.packing .f32) := by
  refine ⟨fun a => ?_, .inl rfl⟩
  rw [trans_eq]
  have := (ord (labs m 0) (pos (i 0) j)).isLt
  match a with
  | ⟨0, _⟩ => show ((ord (labs m 0) (pos (i 0) j)).val + 1) * 1 ≤ 64; omega
  | ⟨1, _⟩ => show (0 + 1) * 3 ≤ 3; omega
  | ⟨2, _⟩ => show (0 + 1) * 224 ≤ 224; omega
  | ⟨3, _⟩ => show (0 + 1) * 224 ≤ 224; omega

/-- Every block that a table names lies inside its array. -/
theorem ok : Ok m :=
  ⟨fun i => trans_ok m 0 i, fun i => trans_ok m 1 i, fun i => trans_ok m 2 i, fun i => trans_ok m 3 i, fun i => trans_ok m 4 i, fun i => trans_ok m 5 i, fun i => trans_ok m 6 i, fun i => trans_ok m 7 i, fun i => trans_ok m 8 i, fun i => trans_ok m 9 i, fun i => trans_ok m 10 i, fun i => trans_ok m 11 i, fun i => trans_ok m 12 i, fun i => trans_ok m 13 i, fun i => trans_ok m 14 i, fun i => trans_ok m 15 i⟩

/-- An array read through the block that the order names. -/
theorem block_apply (X : Cert.Mix.SX.Idx → F .f32) (j : Fin 16) (i : grid0.Coords) (y : S1x3x224x224.Idx) (h) :
    X ((Rect.block (s := S64x3x224x224) S1x3x224x224.size (trans j (tbl m) i) h).emb y)
      = Cert.Mix.pixel X (ord (labs m 0) (pos (i 0) j)) y := by
  have e := trans_eq m j i
  refine congrArg X (funext fun a => Fin.ext ?_)
  have h0 : (y 0).val < 1 := (y 0).isLt
  have ha : ∀ a, trans j (tbl m) i a = (![(ord (labs m 0) (pos (i 0) j)).val, 0, 0, 0] : Fin 4 → Nat) a := fun a => congrFun e a
  match a with
  | ⟨0, _⟩ =>
    show trans j (tbl m) i 0 * 1 + 1 * (y 0).val = (ord (labs m 0) (pos (i 0) j)).val
    rw [ha]; show (ord (labs m 0) (pos (i 0) j)).val * 1 + 1 * (y 0).val = (ord (labs m 0) (pos (i 0) j)).val; omega
  | ⟨1, _⟩ => show trans j (tbl m) i 1 * 3 + 1 * (y 1).val = (y 1).val; rw [ha]; show 0 * 3 + 1 * (y 1).val = (y 1).val; omega
  | ⟨2, _⟩ => show trans j (tbl m) i 2 * 224 + 1 * (y 2).val = (y 2).val; rw [ha]; show 0 * 224 + 1 * (y 2).val = (y 2).val; omega
  | ⟨3, _⟩ => show trans j (tbl m) i 3 * 224 + 1 * (y 3).val = (y 3).val; rw [ha]; show 0 * 224 + 1 * (y 3).val = (y 3).val; omega

/-- The 16 staged images at point `t`, from the images' array `X` and any tables. -/
def imgsOf (a : (pcfg0 (F := F)).Adm) (X : Cert.Mix.SX.Idx → F .f32) (t : Fin (cfg0 a).N) : Fin 16 → Vec F S1x3x224x224 .f32 :=
  ![(((cfg0 a).win 0).blk t).view.read (Elt F) X,
    (((cfg0 a).win 1).blk t).view.read (Elt F) X,
    (((cfg0 a).win 2).blk t).view.read (Elt F) X,
    (((cfg0 a).win 3).blk t).view.read (Elt F) X,
    (((cfg0 a).win 4).blk t).view.read (Elt F) X,
    (((cfg0 a).win 5).blk t).view.read (Elt F) X,
    (((cfg0 a).win 6).blk t).view.read (Elt F) X,
    (((cfg0 a).win 7).blk t).view.read (Elt F) X,
    (((cfg0 a).win 8).blk t).view.read (Elt F) X,
    (((cfg0 a).win 9).blk t).view.read (Elt F) X,
    (((cfg0 a).win 10).blk t).view.read (Elt F) X,
    (((cfg0 a).win 11).blk t).view.read (Elt F) X,
    (((cfg0 a).win 12).blk t).view.read (Elt F) X,
    (((cfg0 a).win 13).blk t).view.read (Elt F) X,
    (((cfg0 a).win 14).blk t).view.read (Elt F) X,
    (((cfg0 a).win 15).blk t).view.read (Elt F) X]

/-- A staged image is the block of the batch that the table names. -/
theorem imgsOf_read (a : (pcfg0 (F := F)).Adm) (X : Cert.Mix.SX.Idx → F .f32) (t : Fin (cfg0 a).N) (j : Fin 16) (y : S1x3x224x224.Idx) (h) :
    imgsOf a X t j y = X ((Rect.block (s := S64x3x224x224) S1x3x224x224.size (trans j a.1 (grid0.coords t)) h).emb y) := by
  fin_cases j <;> rfl

/-- The staged image `j` at point `t`: the image of the batch that the order has at that position. -/
theorem imgs_apply (c : Dev nD) (t : Fin (cfgM m (ok m)).N) (j : Fin 16) (y : S1x3x224x224.Idx) :
    imgs m (ok m) c t j y = Cert.Mix.pixel (m ((c : Thread nD τ).loc main_arg0)) (ord (labs m c) (pos (grid0.coords t 0) j)) y := by
  have e : imgs m (ok m) c t = imgsOf (adm m (ok m)) (V m c main_arg0) t := rfl
  obtain rfl : c = 0 := Subsingleton.elim _ _
  refine (congrFun (congrFun e j) y).trans
    ((imgsOf_read (adm m (ok m)) (V m 0 main_arg0) t j y (trans_ok m j (grid0.coords t)).1).trans ?_)
  rw [(V_args m 0).1]
  exact block_apply m _ j _ y _

/-! ## The labels the body reads -/

/-- A cell of a table at a known offset. -/
theorem cell_eq (off : Fin 1 → Nat) (h : ∀ a, off a + S1.size a ≤ S64.size a) (k : Fin 64) (hk : off 0 = k.val) (y : S1.Idx) :
    ((Rect.unit (s := S64) off S1.size h).emb y : Cert.Mix.SL.Idx) = Shape.Idx.ofFin k :=
  (Shape.Idx.eq_ofFin _).trans (congrArg Shape.Idx.ofFin (cell off h k hk y))

/-- The word at offset `k` of each table. -/
theorem tabAt_eq (c : Dev nD) (f : Cert.Mix.SL.Idx → BitVec 32) (off : Fin 1 → Nat) (h : ∀ a, off a + S1.size a ≤ S64.size a)
    (k : Fin 64) (hk : off 0 = k.val) :
    tabAt (F := F) c tOrd f off h = f (Shape.Idx.ofFin k) ∧ tabAt (F := F) c tMate f off h = f (Shape.Idx.ofFin k)
      ∧ tabAt (F := F) c tLab f off h = f (Shape.Idx.ofFin k) := by
  have e := congrArg f (cell_eq off h k hk (Shape.Idx.first (numel1_S1.symm ▸ Nat.one_pos)))
  exact ⟨e, e, e⟩

/-- The label the body reads through the order. -/
theorem labAt_ord (c : Dev nD) (i : grid0.Coords) (j : Fin 16) :
    labAt c i tOrd tLab (tbl m 0) (tbl m 2) (words m c).ord j = labs m c (Shape.Idx.ofFin (ord (labs m c) (pos (i 0) j))) := by
  obtain rfl : c = 0 := Subsingleton.elim _ _
  have h1 : tabAt (F := F) 0 tOrd (tbl m 0) (k0_off1 i (BitVec.ofNat 32 j.val)) (k0_off1_inb i j) = ordW (labs m 0) (pos (i 0) j) :=
    (tabAt_eq 0 (V m 0 main_v3) _ _ _ (off_pos i j)).1.trans (congrFun (V_ord m 0) _)
  refine ((tabAt_eq 0 (V m 0 main_arg1) _ _ (ord (labs m 0) (pos (i 0) j)) ?_).2.2).trans (congrFun (V_args m 0).2 _)
  exact (congrArg BitVec.toNat h1).trans (Cert.Mix.toNat_ordW _ _)

/-- The label it reads through the table of mates. -/
theorem labAt_mate (c : Dev nD) (i : grid0.Coords) (j : Fin 16) :
    labAt c i tMate tLab (tbl m 1) (tbl m 2) (words m c).mate j = labs m c (Shape.Idx.ofFin (ord (labs m c) (mate (pos (i 0) j)))) := by
  obtain rfl : c = 0 := Subsingleton.elim _ _
  have h1 : tabAt (F := F) 0 tMate (tbl m 1) (k0_off1 i (BitVec.ofNat 32 j.val)) (k0_off1_inb i j) = ordW (labs m 0) (mate (pos (i 0) j)) :=
    (tabAt_eq 0 (V m 0 main_v10) _ _ _ (off_pos i j)).2.1.trans (congrFun (V_mate m 0) _)
  refine ((tabAt_eq 0 (V m 0 main_arg1) _ _ (ord (labs m 0) (mate (pos (i 0) j))) ?_).2.2).trans (congrFun (V_args m 0).2 _)
  exact (congrArg BitVec.toNat h1).trans (Cert.Mix.toNat_ordW _ _)

end Cert.KernelIdeal.Hand

end
-- ==== Proof.KernelIdeal.Values.lean ====
/- What the kernel's run leaves in the two results: the specification, at every index. -/
module

public import proofs.«01_k».proof.Proof.KernelIdeal.Launch
public import proofs.«01_k».proof.Proof.KernelIdeal.Tables

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Mix (ord ordW pos blk row mate perm blend weigh hot pixel blk_pos row_pos pos_blk_row)
open Idealize.ShloMosaic.Pipeline (Dat Cfg Window BodyObligation cellOf)

variable {F : FTy → Type} [FloatOps F]

local notation "𝕄" => MT nD τ sig Unit (Elt F) ℕ (UR sig nD τ) ℕ

/-! ## Where a point's blocks lie in the results -/

/-- Index `y` of the block of images at grid point `i`, in the result. -/
abbrev imgPlace (i : grid0.Coords) (y : S16x3x224x224.Idx) : Cert.Mix.SX.Idx := ValueIdx.ix4 (pos (i 0) (y 0)) (y 1) (y 2) (y 3)

/-- Index `y` of the block of label rows at grid point `i`, in the result. -/
abbrev labPlace (i : grid0.Coords) (y : S16x1x1000.Idx) : S64x1x1000.Idx := ValueIdx.ix3 (pos (i 0) (y 0)) (y 1) (y 2)

/-- The word of a grid point is its number. -/
theorem word_small (i : grid0.Coords) : (BitVec.ofNat 32 (i 0).val).toNat = (i 0).val := by
  have h : (i 0).val < 4 := (i 0).isLt
  rw [BitVec.toNat_ofNat]; omega

/-- A block of images lies in the result at its positions. -/
theorem imgPlace_eq (i : grid0.Coords) (h) (y : S16x3x224x224.Idx) :
    (Rect.block (s := S64x3x224x224) S16x3x224x224.size (cc0_transform_16 i) h).emb y = imgPlace i y := by
  funext a
  apply Fin.ext
  have hw := word_small i
  match a with
  | ⟨0, _⟩ => show (BitVec.ofNat 32 (i 0).val).toNat * 16 + 1 * (y 0).val = 16 * (i 0).val + (y 0).val; omega
  | ⟨1, _⟩ => show 0 * 3 + 1 * (y 1).val = (y 1).val; omega
  | ⟨2, _⟩ => show 0 * 224 + 1 * (y 2).val = (y 2).val; omega
  | ⟨3, _⟩ => show 0 * 224 + 1 * (y 3).val = (y 3).val; omega

/-- A block of label rows lies in the result at its positions. -/
theorem labPlace_eq (i : grid0.Coords) (h) (y : S16x1x1000.Idx) :
    (Rect.block (s := S64x1x1000) S16x1x1000.size (cc0_transform_17 i) h).emb y = labPlace i y := by
  funext a
  apply Fin.ext
  have hw := word_small i
  match a with
  | ⟨0, _⟩ => show (BitVec.ofNat 32 (i 0).val).toNat * 16 + 1 * (y 0).val = 16 * (i 0).val + (y 0).val; omega
  | ⟨1, _⟩ => show 0 * 1 + 1 * (y 1).val = (y 1).val; omega
  | ⟨2, _⟩ => show 0 * 1000 + 1 * (y 2).val = (y 2).val; omega

/-- Every block of 16 has its grid point. -/
theorem point_of (b : Fin 4) : ∃ t : Fin grid0.N, grid0.coords t 0 = b := by
  have h : ∀ b : Fin 4, ∃ t : Fin grid0.N, (grid0.coords t 0).val = b.val := by decide +kernel
  obtain ⟨t, ht⟩ := h b
  exact ⟨t, Fin.ext ht⟩

/-! ## The arrays after the run, for any tables and any data -/

/-- The images' result is written back at every point. -/
theorem flush_img (a : (pcfg0 (F := F)).Adm) : ∀ t : Fin (cfg0 a).N, ((cfg0 a).win 16).flush t = true :=
  (fun t => (Pipeline.Window.flushOf_reads cc0_transform_16 reads0_16 hreads0_16 0 (by decide) (by decide)
    (Pipeline.Window.sep_of_coord cc0_transform_16 0 0 (fun _ => rfl) (by decide)) (P := 1) (m := 0) (by decide) rfl t).mpr (Nat.mod_one _) :
    ∀ t : Fin grid0.N, Pipeline.Window.flushOf grid0 true cc0_transform_16 t = true)

/-- The labels' result is written back at every point. -/
theorem flush_lab (a : (pcfg0 (F := F)).Adm) : ∀ t : Fin (cfg0 a).N, ((cfg0 a).win 17).flush t = true :=
  (fun t => (Pipeline.Window.flushOf_reads cc0_transform_17 reads0_17 hreads0_17 0 (by decide) (by decide)
    (Pipeline.Window.sep_of_coord cc0_transform_17 0 0 (fun _ => rfl) (by decide)) (P := 1) (m := 0) (by decide) rfl t).mpr (Nat.mod_one _) :
    ∀ t : Fin grid0.N, Pipeline.Window.flushOf grid0 true cc0_transform_17 t = true)

variable (a : (pcfg0 (F := F)).Adm) {c : Dev nD} (dat : Dat τ (Elt F) Unit ℕ (UR sig nD τ) ℕ (cfg0 a) c)

/-- If every block of images agrees with `G`, the array ends at `G`. -/
theorem arr_img (B : Fin (cfg0 a).N → Vec F S16x3x224x224 .f32) (hB : ∀ t, dat.after 16 t = B t) (G : Cert.Mix.SX.Idx → F .f32)
    (h : ∀ t y, B t y = G (imgPlace (grid0.coords t) y)) : dat.arrAt 16 (cfg0 a).N = G := by
  refine dat.arrAt_eq_of_cover 16 G (fun t _ => ?_) (fun (i : Cert.Mix.SX.Idx) => ?_)
  · have e : dat.flushed 16 t = B t := (show dat.flushed 16 t = dat.after 16 t from rfl).trans (hB t)
    refine e.trans (funext fun y => (h t y).trans ?_)
    exact congrArg G (imgPlace_eq (grid0.coords t) (hinb0_16 (grid0.coords t)) y).symm
  · obtain ⟨t, ht⟩ := point_of (blk (i 0))
    refine ⟨t, flush_img a t, ?_⟩
    let y : S16x3x224x224.Idx := ValueIdx.ix4 (row (i 0)) (i 1) (i 2) (i 3)
    have e : (((cfg0 a).win 16).blk t).view.emb y = i := by
      refine (imgPlace_eq (grid0.coords t) (hinb0_16 (grid0.coords t)) y).trans ?_
      show (ValueIdx.ix4 (pos (grid0.coords t 0) (row (i 0))) (i 1) (i 2) (i 3) : Cert.Mix.SX.Idx) = i
      funext k
      match k with
      | ⟨0, _⟩ => exact (congrArg (fun b => pos b (row (i 0))) ht).trans (pos_blk_row (i 0))
      | ⟨1, _⟩ => rfl
      | ⟨2, _⟩ => rfl
      | ⟨3, _⟩ => rfl
    exact e ▸ View.emb_mem_set _ y

/-- If every block of label rows agrees with `G`, the array ends at `G`. -/
theorem arr_lab (B : Fin (cfg0 a).N → Vec F S16x1x1000 .f32) (hB : ∀ t, dat.after 17 t = B t) (G : S64x1x1000.Idx → F .f32)
    (h : ∀ t y, B t y = G (labPlace (grid0.coords t) y)) : dat.arrAt 17 (cfg0 a).N = G := by
  refine dat.arrAt_eq_of_cover 17 G (fun t _ => ?_) (fun (i : S64x1x1000.Idx) => ?_)
  · have e : dat.flushed 17 t = B t := (show dat.flushed 17 t = dat.after 17 t from rfl).trans (hB t)
    refine e.trans (funext fun y => (h t y).trans ?_)
    exact congrArg G (labPlace_eq (grid0.coords t) (hinb0_17 (grid0.coords t)) y).symm
  · obtain ⟨t, ht⟩ := point_of (blk (i 0))
    refine ⟨t, flush_lab a t, ?_⟩
    let y : S16x1x1000.Idx := ValueIdx.ix3 (row (i 0)) (i 1) (i 2)
    have e : (((cfg0 a).win 17).blk t).view.emb y = i := by
      refine (labPlace_eq (grid0.coords t) (hinb0_17 (grid0.coords t)) y).trans ?_
      show (ValueIdx.ix3 (pos (grid0.coords t 0) (row (i 0))) (i 1) (i 2) : S64x1x1000.Idx) = i
      funext k
      match k with
      | ⟨0, _⟩ => exact (congrArg (fun b => pos b (row (i 0))) ht).trans (pos_blk_row (i 0))
      | ⟨1, _⟩ => rfl
      | ⟨2, _⟩ => rfl
    exact e ▸ View.emb_mem_set _ y

/-! ## The results -/

/-- The mate of row `j` of block `b`. -/
theorem mate_pos (b : Fin 4) (j : Fin 16) : mate (pos b j) = pos b (perm b j) := by
  unfold mate; rw [blk_pos, row_pos]

/-- A block of images, when its images are those the order has at its positions. -/
theorem imgBlock_eq (b : Fin 4) (X : Cert.Mix.SX.Idx → F .f32) (L : Cert.Mix.SL.Idx → BitVec 32) (x : Fin 16 → Vec F S1x3x224x224 .f32)
    (h : ∀ j y, x j y = pixel X (ord L (pos b j)) y) (y : S16x3x224x224.Idx) :
    imgBlock b x y = Cert.Mix.images X L (ValueIdx.ix4 (pos b (y 0)) (y 1) (y 2) (y 3)) := by
  have e : Cert.Mix.images X L (ValueIdx.ix4 (pos b (y 0)) (y 1) (y 2) (y 3))
      = blend b (y 2).val (y 3).val (pixel X (ord L (pos b (y 0))) (inner y)) (pixel X (ord L (pos b (perm b (y 0)))) (inner y)) := by
    have e : ∀ (j : Fin 16) (r s : Nat) (w : S1x3x224x224.Idx),
        blend (blk (pos b j)) r s (pixel X (ord L (pos b j)) w) (pixel X (ord L (mate (pos b j))) w)
          = blend b r s (pixel X (ord L (pos b j)) w) (pixel X (ord L (pos b (perm b j))) w) := by
      intro j r s w; rw [mate_pos, blk_pos]
    exact e (y 0) (y 2).val (y 3).val (inner y)
  exact (congrArg₂ (fun u v => blend b (y 2).val (y 3).val u v) (h (y 0) (inner y)) (h (perm b (y 0)) (inner y))).trans e.symm

/-- The label rows as the kernel's region leaves them: with an axis of one in the middle. -/
def labelRows (L : Cert.Mix.SL.Idx → BitVec 32) : S64x1x1000.Idx → F .f32 := fun z => Cert.Mix.labels L (ValueIdx.ix2 (z 0) (z 2))

/-- A block of label rows, when its labels are those of the images the order has at its positions. -/
theorem labBlock_eq (b : Fin 4) (L : Cert.Mix.SL.Idx → BitVec 32) (p q : Fin 16 → BitVec 32)
    (hp : ∀ j, p j = L (Shape.Idx.ofFin (ord L (pos b j)))) (hq : ∀ j, q j = L (Shape.Idx.ofFin (ord L (mate (pos b j))))) (y : S16x1x1000.Idx) :
    labBlock (F := F) b p q y = labelRows L (ValueIdx.ix3 (pos b (y 0)) (y 1) (y 2)) := by
  have e : labelRows (F := F) L (ValueIdx.ix3 (pos b (y 0)) (y 1) (y 2)) = weigh b (hot (L (Shape.Idx.ofFin (ord L (pos b (y 0))))) (y 2).val)
      (hot (L (Shape.Idx.ofFin (ord L (mate (pos b (y 0)))))) (y 2).val) := by
    have e : ∀ (j : Fin 16) (u v : F .f32), weigh (blk (pos b j)) u v = weigh b u v := by
      intro j u v; rw [blk_pos]
    exact e (y 0) _ _
  exact (congrArg₂ (fun u v => weigh b (hot u (y 2).val) (hot v (y 2).val)) (hp (y 0)) (hq (y 0))).trans e.symm

variable (m : (ℓ : Loc nD τ sig) → Buf (Elt F) ℓ)

/-- The images' array ends at the specification. -/
theorem images_end (c : Dev nD) : (dats m (ok m) (words m) 0 c).arrAt 16 (cfgM m (ok m)).N
    = Cert.Mix.images (m ((c : Thread nD τ).loc main_arg0)) (labs m c) :=
  arr_img (adm m (ok m)) (dats m (ok m) (words m) 0 c) (fun t => imgBlock (grid0.coords t 0) (imgs m (ok m) c t)) (fun t => rfl) _
    fun t y => imgBlock_eq (grid0.coords t 0) (m ((c : Thread nD τ).loc main_arg0)) (labs m c) (imgs m (ok m) c t)
      (fun j y => imgs_apply m c t j y) y

/-- The labels' array ends at the specification. -/
theorem labels_end (c : Dev nD) : (dats m (ok m) (words m) 0 c).arrAt 17 (cfgM m (ok m)).N = labelRows (labs m c) :=
  arr_lab (adm m (ok m)) (dats m (ok m) (words m) 0 c)
    (fun t => labBlock (grid0.coords t 0) (labAt c (grid0.coords t) tOrd tLab (tbl m 0) (tbl m 2) (words m c).ord)
        (labAt c (grid0.coords t) tMate tLab (tbl m 1) (tbl m 2) (words m c).mate)) (fun t => rfl) _
    fun t y => labBlock_eq (grid0.coords t 0) (labs m c) _ _ (fun j => labAt_ord m c (grid0.coords t) j)
      (fun j => labAt_mate m c (grid0.coords t) j) y

end Cert.KernelIdeal.Hand

end
-- ==== Proof.KernelIdeal.Outcome.lean ====
/- The kernel's run, stated of its results and arguments. -/
module

public import proofs.«01_k».proof.Proof.KernelIdeal.Values

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- Label rows with their axis of one dropped. -/
theorem labelRows_flat (L : Cert.Mix.SL.Idx → BitVec 32) :
    shapeCast S64x1000 (labelRows (F := F) L) shapeCasts_S64x1x1000_S64x1000 = Cert.Mix.labels L := by
  funext y
  have e : Shape.reshapeEquiv shapeCasts_S64x1x1000_S64x1000 y = (ValueIdx.ix3 (y 0) (0 : Fin 1) (y 1) : S64x1x1000.Idx) := by
    apply Shape.reshapeEquiv_eq_of_rowMajor
    refine (Shape.rowMajor_val_three (d := ![64, 1, 1000]) _).trans (Eq.trans ?_ (Shape.rowMajor_val_two (d := ![64, 1000]) _).symm)
    show ((y 0).val * 1 + 0) * 1000 + (y 1).val = (y 0).val * 1000 + (y 1).val
    omega
  show labelRows (F := F) L (Shape.reshapeEquiv _ y) = _
  rw [e]
  rfl

variable (m : (ℓ : Loc nD τ sig) → Buf (Elt F) ℓ) (ρ : Dev nD → PrngReg)

/-- The operation after the region drops the axis of one of the label rows. -/
theorem Wend_flat (c : Dev nD) (V : Valuation τ sig (Elt F)) (X : S64x1x1000.Idx → F .f32) (hX : V (Proc.devRef .tc main_v11_1) = X) :
    StableHlo.after ([hostOps1].flatten) V (Proc.devRef .tc main_v12) = shapeCast S64x1000 X shapeCasts_S64x1x1000_S64x1000 := by
  subst hX
  simp only [List.flatten_cons, List.flatten_nil, List.append_nil]
  after_results
  rfl

/-- The labels' result ends at the specification. -/
theorem Wend_out (c : Dev nD) : Wend m (ok m) (words m) c main_v12 = Cert.Mix.labels (F := F) (labs m c) :=
  (Wend_flat c _ (labelRows (F := F) (labs m c))
    (((dats m (ok m) (words m) 0 c).withArrays_arrAt (launch₀0 (F := F)).sharedIn (V0 m c) (A_eq m (ok m) (words m) c) 17).trans (labels_end m c))).trans
    (labelRows_flat (labs m c))

/-- Every execution of the kernel's program ends with the images and labels of the specification in its results, its
    arguments unchanged and every counter at zero. -/
theorem outcome : θ_run defs (onTc (τ := τ) (main (F := F))) ⟨m, fun _ => 0, ρ⟩ (fun r =>
    (∀ c : Dev nD, r.2.mem ((c.tc : Thread nD τ).loc main_v11_0) = Cert.Mix.images (m ((c.tc : Thread nD τ).loc main_arg0)) (labs m c)
      ∧ r.2.mem ((c.tc : Thread nD τ).loc main_v12) = Cert.Mix.labels (F := F) (labs m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c).1 16).trans (images_end m c),
    ((h.1 c).2 main_v12 (by decide : main_v12 ∈ Pipeline.restRefs sig spec0)).trans (Wend_out m c),
    args_kept m (ok m) (words m) h.1 c⟩, h.2⟩) (run m ρ (ok m) (words m))

end Cert.KernelIdeal.Hand

end
-- ==== Proof.Mix.Host.lean ====
/- The host's operations on a batch, each read at an index: rows taken by a vector of words, one block cut from the sorted
   batch, a rectangle pasted from one image into another, and four blocks joined. -/
module

public import proofs.«01_k».proof.Proof.Mix.Words
public import Idealize.ShloMosaic.Lib.Routing.OpsSet
public import Idealize.ShloMosaic.Lib.Pipeline.Value
public import Idealize.ShloMosaic.Lib.Pipeline.Value

@[expose] public section

noncomputable section

namespace Cert.Mix

open Idealize.ShloMosaic

variable {α : Type}

/-- A rank-4 index from its coordinates. -/
theorem eq_ix4' {a b c d : Nat} (y : (⟨4, ![a, b, c, d]⟩ : Shape).Idx) : y = ValueIdx.ix4 (y 0) (y 1) (y 2) (y 3) := by
  funext k
  match k with
  | ⟨0, _⟩ => rfl
  | ⟨1, _⟩ => rfl
  | ⟨2, _⟩ => rfl
  | ⟨3, _⟩ => rfl

/-- Images taken by a vector of words: where the word at `p` is that of `k`, image `p` of the result is image `k`. -/
theorem take_image {N n A B C : Nat} (d : GatherDims ⟨4, ![N, A, B, C]⟩ ⟨2, ![n, 1]⟩ ⟨4, ![n, A, B, C]⟩)
    (hoff : d.offsetDims = [1, 2, 3]) (hcoll : d.collapsedSliceDims = [0]) (hob : d.operandBatchingDims = [])
    (hsim : d.startIndexMap = [0]) (hivd : d.indexVectorDim = 1)
    (x : (⟨4, ![N, A, B, C]⟩ : Shape).Idx → α) (idx : IVec ⟨2, ![n, 1]⟩ 32) (p : Fin n) (k : Fin N) (hN : N ≤ 64)
    (h : idx (StableHlo.Predicate.ixP p) = BitVec.ofNat 32 k.val) (a : Fin A) (b : Fin B) (c : Fin C) :
    Host.gather d x idx (ValueIdx.ix4 p a b c) = x (ValueIdx.ix4 k a b c) := by
  unfold Host.gather
  refine congrArg x (funext fun q => Fin.ext ?_)
  have hbN : ∀ q, q ∉ d.operandBatchingDims := fun q => by rw [hob]; exact List.not_mem_nil
  have hk0 : ∀ k ∈ d.batchDims, k = (0 : Fin 4) := fun k hk => by
    have hk' : k ∉ d.offsetDims := of_decide_eq_true (List.mem_filter.1 hk).2
    rw [hoff] at hk'
    revert hk'
    have : ∀ k : Fin 4, k ∉ ([1, 2, 3] : List (Fin 4)) → k = 0 := by decide
    exact this k
  have hkept : d.sKept = [1, 2, 3] := by
    show (⟨4, ![N, A, B, C]⟩ : Shape).kept (d.collapsedSliceDims ++ d.operandBatchingDims) = _
    rw [hcoll, hob]; rfl
  have e : ∀ r X : Fin 4, X = r → ((ValueIdx.ix4 p a b c : (⟨4, ![n, A, B, C]⟩ : Shape).Idx) X).val
      = ((ValueIdx.ix4 p a b c : (⟨4, ![n, A, B, C]⟩ : Shape).Idx) r).val := fun r X hX => by subst hX; rfl
  have hoffC : ∀ q : Fin 4, q ∈ ([1, 2, 3] : List (Fin 4)) → d.start (ValueIdx.ix4 p a b c) idx q
      + d.batchCoord (ValueIdx.ix4 p a b c) q + d.offCoord (ValueIdx.ix4 p a b c) q
        = ((ValueIdx.ix4 p a b c : (⟨4, ![n, A, B, C]⟩ : Shape).Idx) q).val := fun q hq => by
    have hm : q ∉ d.startIndexMap := by
      rw [hsim]
      exact (by decide : ∀ q : Fin 4, q ∈ ([1, 2, 3] : List (Fin 4)) → q ∉ ([0] : List (Fin 4))) q hq
    have hk : q ∈ d.sKept := by rw [hkept]; exact hq
    rw [d.batchCoord_eq_zero _ _ (hbN q), Nat.add_zero]
    unfold GatherDims.start GatherDims.offCoord
    rw [dif_neg hm, dif_pos hk, Nat.zero_add]
    refine e q _ ?_
    have : ∀ (l : List (Fin 4)) (hl : l.idxOf q < d.offsetDims.length), l = [1, 2, 3] → d.offsetDims[l.idxOf q] = q := by
      rintro l hl rfl
      simp only [hoff]
      exact List.getElem_idxOf (List.idxOf_lt_length_iff.2 hq)
    exact this _ _ hkept
  match q with
  | ⟨0, _⟩ =>
    have hk : (0 : Fin 4) ∉ d.sKept := by
      rw [hkept]; exact (by decide : (0 : Fin 4) ∉ ([1, 2, 3] : List (Fin 4)))
    have hm : (0 : Fin 4) ∈ d.startIndexMap := by rw [hsim]; exact List.mem_singleton.2 rfl
    have hsl : d.sliceSizes 0 = 1 := d.slice_collapsed 0 (by rw [hcoll]; exact List.mem_singleton.2 rfl)
    show d.start (ValueIdx.ix4 p a b c) idx 0 + d.batchCoord (ValueIdx.ix4 p a b c) 0 + d.offCoord (ValueIdx.ix4 p a b c) 0 = k.val
    rw [d.batchCoord_eq_zero _ _ (hbN 0), d.offCoord_eq_zero _ _ hk]
    simp only [Nat.add_zero]
    unfold GatherDims.start
    rw [dif_pos hm]
    have hsi : d.siIdx (ValueIdx.ix4 p a b c) ⟨d.startIndexMap.idxOf 0, List.idxOf_lt_length_iff.2 hm⟩ = StableHlo.Predicate.ixP p := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e 0 _ (hk0 _ (List.getElem_mem _))
      | ⟨1, _⟩ =>
        unfold GatherDims.siIdx
        rw [dif_pos (by rw [hivd])]
        show List.idxOf (0 : Fin 4) d.startIndexMap = 0
        rw [hsim]; simp
    have hkl := k.isLt
    rw [hsi, h, hsl, toInt_word ⟨k.val, by omega⟩]
    show min k.val (N - 1) = k.val
    omega
  | ⟨1, _⟩ => exact hoffC 1 (by decide)
  | ⟨2, _⟩ => exact hoffC 2 (by decide)
  | ⟨3, _⟩ => exact hoffC 3 (by decide)

/-- An update of a scatter lands at `y` exactly when its start and window coordinates add up to `y` on every axis. -/
theorem lands_iff {s si u : Shape} {w : Nat} (d : ScatterDims s si u) (k : u.Idx) (idx : IVec si w) (y : s.Idx) :
    d.resultIdx? k idx = some y ↔ ∀ a, d.start k idx a + d.window k a = ((y a).val : Int) := by
  unfold ScatterDims.resultIdx?
  constructor
  · intro h a
    split at h
    case isTrue hin =>
      have := congrArg (fun f : s.Idx => (f a).val) (Option.some.inj h)
      have hp := (hin a).1
      simp only at this
      omega
    case isFalse => cases h
  · intro h
    have hin : ∀ a, 0 ≤ d.start k idx a + d.window k a ∧ d.start k idx a + d.window k a < s.size a := fun a => by
      have := (y a).isLt; have := h a; omega
    rw [dif_pos hin]
    refine congrArg some (funext fun a => Fin.ext ?_)
    show (d.start k idx a + d.window k a).toNat = (y a).val
    have := h a; omega

/-- A rectangle pasted into every image: a scatter that sets `H` rows by `W` columns from row `r0` and column 0 on, reaching
    down to the last row, of elements of `v` at their own places, leaves `v` in the rectangle and `x` outside it. -/
theorem paste {H W r0 : Nat} (hH : r0 + H = 224) (hW : W ≤ 224)
    (d : ScatterDims SB ⟨1, ![2]⟩ ⟨4, ![16, 3, H, W]⟩) (hwin : d.updateWindowDims = [0, 1, 2, 3]) (hins : d.insertedWindowDims = [])
    (hsd : d.scatterDimsToOperandDims = [2, 3]) (hivd : d.indexVectorDim = 0)
    (x v : SB.Idx → α) (idx : IVec ⟨1, ![2]⟩ 32) (h0 : (idx (Shape.Idx.ofFin 0)).toInt = r0) (h1 : (idx (Shape.Idx.ofFin 1)).toInt = 0)
    (upd : (⟨4, ![16, 3, H, W]⟩ : Shape).Idx → α)
    (hupd : ∀ k (y : SB.Idx), (y 0).val = (k 0).val → (y 1).val = (k 1).val → (y 2).val = r0 + (k 2).val → (y 3).val = (k 3).val → upd k = v y)
    (y : SB.Idx) :
    Host.scatter d (fun _ b => b) x idx upd y = if r0 ≤ (y 2).val ∧ (y 3).val < W then v y else x y := by
  have hkept : d.sKept = [0, 1, 2, 3] := by
    show SB.kept d.insertedWindowDims = _
    rw [hins]; rfl
  have hw : ∀ (k : (⟨4, ![16, 3, H, W]⟩ : Shape).Idx) (q : Fin 4), d.window k q = (k q).val := fun k q => by
    have hq : q ∈ ([0, 1, 2, 3] : List (Fin 4)) := by revert q; decide
    have hk : q ∈ d.sKept := by rw [hkept]; exact hq
    have e : ∀ r X : Fin 4, X = r → (k X).val = (k r).val := fun r X hX => by subst hX; rfl
    unfold ScatterDims.window
    rw [dif_pos hk]
    refine e q _ ?_
    have : ∀ (l : List (Fin 4)) (hl : l.idxOf q < d.updateWindowDims.length), l = [0, 1, 2, 3] → d.updateWindowDims[l.idxOf q] = q := by
      rintro l hl rfl
      simp only [hwin]
      exact List.getElem_idxOf (List.idxOf_lt_length_iff.2 hq)
    exact this _ _ hkept
  have hsi : ∀ k (q : Fin 4) (hm : q ∈ d.scatterDimsToOperandDims) (n : Fin 2), ([2, 3] : List (Fin 4)).idxOf q = n.val →
      d.siIdx k ⟨d.scatterDimsToOperandDims.idxOf q, List.idxOf_lt_length_iff.2 hm⟩ = Shape.Idx.ofFin n := fun k q hm n hn => by
    funext b'
    apply Fin.ext
    match b' with
    | ⟨0, _⟩ =>
      unfold ScatterDims.siIdx
      rw [dif_pos (by rw [hivd])]
      show List.idxOf q d.scatterDimsToOperandDims = n.val
      rw [hsd]; exact hn
  have s0 : ∀ k, d.start k idx 0 = 0 := fun k => by
    unfold ScatterDims.start; rw [dif_neg (by rw [hsd]; decide)]
  have s1 : ∀ k, d.start k idx 1 = 0 := fun k => by
    unfold ScatterDims.start; rw [dif_neg (by rw [hsd]; decide)]
  have s2 : ∀ k, d.start k idx 2 = r0 := fun k => by
    have hm : (2 : Fin 4) ∈ d.scatterDimsToOperandDims := by rw [hsd]; decide
    unfold ScatterDims.start; rw [dif_pos hm, hsi k 2 hm 0 (by decide)]; exact h0
  have s3 : ∀ k, d.start k idx 3 = 0 := fun k => by
    have hm : (3 : Fin 4) ∈ d.scatterDimsToOperandDims := by rw [hsd]; decide
    unfold ScatterDims.start; rw [dif_pos hm, hsi k 3 hm 1 (by decide)]; exact h1
  have lands : ∀ k, d.resultIdx? k idx = some y ↔ (y 0).val = (k 0).val ∧ (y 1).val = (k 1).val ∧ (y 2).val = r0 + (k 2).val ∧ (y 3).val = (k 3).val := fun k => by
    rw [lands_iff]
    constructor
    · intro h
      have a0 := h 0; have a1 := h 1; have a2 := h 2; have a3 := h 3
      rw [s0, hw k 0] at a0; rw [s1, hw k 1] at a1; rw [s2, hw k 2] at a2; rw [s3, hw k 3] at a3
      omega
    · rintro ⟨a0, a1, a2, a3⟩ q
      match q with
      | ⟨0, _⟩ => have := s0 k; have := hw k 0; show d.start k idx 0 + d.window k 0 = ((y 0).val : Int); omega
      | ⟨1, _⟩ => have := s1 k; have := hw k 1; show d.start k idx 1 + d.window k 1 = ((y 1).val : Int); omega
      | ⟨2, _⟩ => have := s2 k; have := hw k 2; show d.start k idx 2 + d.window k 2 = ((y 2).val : Int); omega
      | ⟨3, _⟩ => have := s3 k; have := hw k 3; show d.start k idx 3 + d.window k 3 = ((y 3).val : Int); omega
  by_cases h : r0 ≤ (y 2).val ∧ (y 3).val < W
  · rw [if_pos h]
    have hy2 : (y 2).val < 224 := (y 2).isLt
    refine Routing.scatter_set_hit d x idx upd y (v y) (fun k hk => ?_)
      (ValueIdx.ix4 (y 0) (y 1) (⟨(y 2).val - r0, by omega⟩ : Fin H) (⟨(y 3).val, h.2⟩ : Fin W)) ((lands _).2 ⟨rfl, rfl, ?_, rfl⟩)
    · obtain ⟨a0, a1, a2, a3⟩ := (lands k).1 hk
      exact hupd k y a0 a1 a2 a3
    · show (y 2).val = r0 + ((y 2).val - r0)
      omega
  · rw [if_neg h]
    refine Routing.scatter_set_miss d x idx upd y fun k hk => h ?_
    obtain ⟨a0, a1, a2, a3⟩ := (lands k).1 hk
    have := (k 3).isLt
    have e3 : (k 3).val < W := (k 3).isLt
    omega

/-- Block `b` of a batch of images, -/
def piece (u : SX.Idx → α) (b : Fin 4) : SB.Idx → α := fun y => u (ValueIdx.ix4 (pos b (y 0)) (y 1) (y 2) (y 3))
/-- and of a batch of rows. -/
def rows (u : SO.Idx → α) (b : Fin 4) : (⟨2, ![16, 1000]⟩ : Shape).Idx → α := fun y => u (ValueIdx.ix2 (pos b (y 0)) (y 1))

/-- A half of the batch and then a half of that is a block of images, -/
theorem piece_eq (u : SX.Idx → α) (b : Fin 4) (p q : Nat) (h : SX.Slices ![p, 0, 0, 0] ⟨4, ![32, 3, 224, 224]⟩)
    (h' : (⟨4, ![32, 3, 224, 224]⟩ : Shape).Slices ![q, 0, 0, 0] SB) (e : p + q = 16 * b.val) :
    extractStridedSlice SB ![q, 0, 0, 0] (extractStridedSlice ⟨4, ![32, 3, 224, 224]⟩ ![p, 0, 0, 0] u h) h' = piece u b := by
  funext y
  refine congrArg u (funext fun a => Fin.ext ?_)
  match a with
  | ⟨0, _⟩ => show p + (q + (y 0).val) = 16 * b.val + (y 0).val; omega
  | ⟨1, _⟩ => show 0 + (0 + (y 1).val) = (y 1).val; omega
  | ⟨2, _⟩ => show 0 + (0 + (y 2).val) = (y 2).val; omega
  | ⟨3, _⟩ => show 0 + (0 + (y 3).val) = (y 3).val; omega

/-- or of rows. -/
theorem rows_eq (u : SO.Idx → α) (b : Fin 4) (p q : Nat) (h : SO.Slices ![p, 0] ⟨2, ![32, 1000]⟩)
    (h' : (⟨2, ![32, 1000]⟩ : Shape).Slices ![q, 0] ⟨2, ![16, 1000]⟩) (e : p + q = 16 * b.val) :
    extractStridedSlice ⟨2, ![16, 1000]⟩ ![q, 0] (extractStridedSlice ⟨2, ![32, 1000]⟩ ![p, 0] u h) h' = rows u b := by
  funext y
  refine congrArg u (funext fun a => Fin.ext ?_)
  match a with
  | ⟨0, _⟩ => show p + (q + (y 0).val) = 16 * b.val + (y 0).val; omega
  | ⟨1, _⟩ => show 0 + (0 + (y 1).val) = (y 1).val; omega

/-- Four blocks of images joined: position `n` reads its row of its block. -/
theorem join_images (g : Fin 4 → SB.Idx → α) (u0 u1 u2 u3 : SB.Idx → α) (h : Shape.Concatenates [SB, SB, SB, SB] SX 0)
    (e0 : u0 = g 0) (e1 : u1 = g 1) (e2 : u2 = g 2) (e3 : u3 = g 3) (y : SX.Idx) :
    concatenate SX 0 [⟨SB, u0⟩, ⟨SB, u1⟩, ⟨SB, u2⟩, ⟨SB, u3⟩] h y
      = g (blk (y 0)) (ValueIdx.ix4 (row (y 0)) (y 1) (y 2) (y 3)) := by
  subst e0 e1 e2 e3
  refine concatenate_ofFn_apply (t := SX) (s₁ := SB) 0 g h rfl 16 rfl y (blk (y 0)) rfl _ rfl fun b hb => ?_
  match b with
  | ⟨0, _⟩ => exact absurd rfl hb
  | ⟨1, _⟩ => rfl
  | ⟨2, _⟩ => rfl
  | ⟨3, _⟩ => rfl

/-- Four blocks of rows joined. -/
theorem join_rows (g : Fin 4 → (⟨2, ![16, 1000]⟩ : Shape).Idx → α) (u0 u1 u2 u3 : (⟨2, ![16, 1000]⟩ : Shape).Idx → α)
    (h : Shape.Concatenates [⟨2, ![16, 1000]⟩, ⟨2, ![16, 1000]⟩, ⟨2, ![16, 1000]⟩, ⟨2, ![16, 1000]⟩] SO 0)
    (e0 : u0 = g 0) (e1 : u1 = g 1) (e2 : u2 = g 2) (e3 : u3 = g 3) (y : SO.Idx) :
    concatenate SO 0 [⟨⟨2, ![16, 1000]⟩, u0⟩, ⟨⟨2, ![16, 1000]⟩, u1⟩, ⟨⟨2, ![16, 1000]⟩, u2⟩, ⟨⟨2, ![16, 1000]⟩, u3⟩] h y
      = g (blk (y 0)) (ValueIdx.ix2 (row (y 0)) (y 1)) := by
  subst e0 e1 e2 e3
  refine concatenate_ofFn_apply (t := SO) (s₁ := ⟨2, ![16, 1000]⟩) 0 g h rfl 16 rfl y (blk (y 0)) rfl _ rfl fun b hb => ?_
  match b with
  | ⟨0, _⟩ => exact absurd rfl hb
  | ⟨1, _⟩ => rfl

end Cert.Mix

end
-- ==== Proof.Mix.Blocks.lean ====
/- The host's four blocks: a block of images and a block of label rows, each as the host computes it, equal to the blend of the
   specification. -/
module

public import proofs.«01_k».proof.Proof.Mix.Host
public import Idealize.ShloMosaic.Lib.KernelVsHost

@[expose] public section

noncomputable section

namespace Cert.Mix

open Idealize.ShloMosaic

variable {F : FTy → Type} [FloatOps F]

/-- The shape of a scalar, -/
abbrev S0 : Shape := ⟨0, ![]⟩
/-- of a block's index words, -/
abbrev SW : Shape := ⟨1, ![16]⟩
/-- and of a block of label rows. -/
abbrev SR : Shape := ⟨2, ![16, 1000]⟩

/-- The column of start indices made from a vector of words: where the vector holds the word of `k`, so does the column. -/
theorem column_word {n : Nat} (hn : n ≠ 1) (w : (⟨1, ![n]⟩ : Shape).Idx → BitVec 32) (N : BitVec 32)
    (hc : (⟨1, ![n]⟩ : Shape).BroadcastsInDim ⟨2, ![n, 1]⟩ ![0]) (h0 : S0.BroadcastsInDim ⟨1, ![n]⟩ ![])
    (p : Fin n) (k : Fin 64) (h : w (Shape.Idx.ofFin p) = BitVec.ofNat 32 k.val) :
    broadcastInDim ⟨2, ![n, 1]⟩ ![0] hc (select (cmpi .slt w (broadcastInDim ⟨1, ![n]⟩ ![] h0 (constantI S0 32 0#32)))
      (addi w (broadcastInDim ⟨1, ![n]⟩ ![] h0 (constantI S0 32 N))) w) (StableHlo.Predicate.ixP p) = BitVec.ofNat 32 k.val := by
  rw [broadcastInDim_apply _ hc _ _ (Shape.Idx.ofFin p) fun a => ?_]
  · show Scalar.select (IntOp.cmpi .slt (w (Shape.Idx.ofFin p)) 0#32) (IntOp.addi (w (Shape.Idx.ofFin p)) N) (w (Shape.Idx.ofFin p)) = _
    rw [h]; exact wrap_word k N
  · match a with
    | ⟨0, _⟩ => exact (if_neg hn).symm

/-- A table of block rows as the host holds it, read at `j`. -/
theorem table_word (lit : Fin 16 → BitVec 32) (b : Fin 4) (h : ∀ j, lit j = BitVec.ofNat 32 (perm b j).val) (j : Fin 16) :
    (fun i : SW.Idx => lit (SW.rowMajor i)) (Shape.Idx.ofFin j) = BitVec.ofNat 32 (perm b j).val :=
  (congrArg lit (Fin.ext (Shape.rowMajor_val_one (d := ![16]) (Shape.Idx.ofFin j)))).trans (h j)

/-- A row of the block as a number below 64. -/
def wide (k : Fin 16) : Fin 64 := ⟨k.val, by omega⟩

/-- What block `b` of the mixed images is, over the sorted batch `u`. -/
def blendAt (u : SX.Idx → F .f32) (b : Fin 4) : SB.Idx → F .f32 := fun y =>
  blend b (y 2).val (y 3).val (piece u b y) (u (ValueIdx.ix4 (pos b (perm b (y 0))) (y 1) (y 2) (y 3)))

/-- What block `b` of the mixed labels is, over the sorted rows `u`. -/
def weighAt (u : SO.Idx → F .f32) (b : Fin 4) : SR.Idx → F .f32 := fun y =>
  weigh b (rows u b y) (u (ValueIdx.ix2 (pos b (perm b (y 0))) (y 1)))

/-- The block's mates, taken by its table. -/
theorem mates (u : SX.Idx → F .f32) (b : Fin 4) (d : GatherDims SB ⟨2, ![16, 1]⟩ SB)
    (hoff : d.offsetDims = [1, 2, 3]) (hcoll : d.collapsedSliceDims = [0]) (hob : d.operandBatchingDims = [])
    (hsim : d.startIndexMap = [0]) (hivd : d.indexVectorDim = 1) (idx : IVec ⟨2, ![16, 1]⟩ 32)
    (hidx : ∀ j, idx (StableHlo.Predicate.ixP j) = BitVec.ofNat 32 (perm b j).val) (y : SB.Idx) :
    Host.gather d (piece u b) idx y = u (ValueIdx.ix4 (pos b (perm b (y 0))) (y 1) (y 2) (y 3)) :=
  (congrArg (Host.gather d (piece u b) idx) (eq_ix4' y)).trans
    (take_image d hoff hcoll hob hsim hivd (piece u b) idx (y 0) (perm b (y 0)) (by omega) (hidx (y 0)) (y 1) (y 2) (y 3))

/-- A block that adds weighted pixels. -/
theorem mixed_block (u : SX.Idx → F .f32) (b : Fin 4) (hb : adds b = true) (p q : Nat)
    (h : SX.Slices ![p, 0, 0, 0] ⟨4, ![32, 3, 224, 224]⟩) (h' : (⟨4, ![32, 3, 224, 224]⟩ : Shape).Slices ![q, 0, 0, 0] SB)
    (e : p + q = 16 * b.val) (d : GatherDims SB ⟨2, ![16, 1]⟩ SB)
    (hoff : d.offsetDims = [1, 2, 3]) (hcoll : d.collapsedSliceDims = [0]) (hob : d.operandBatchingDims = [])
    (hsim : d.startIndexMap = [0]) (hivd : d.indexVectorDim = 1) (idx : IVec ⟨2, ![16, 1]⟩ 32)
    (hidx : ∀ j, idx (StableHlo.Predicate.ixP j) = BitVec.ofNat 32 (perm b j).val) (h0 : S0.BroadcastsInDim SB ![]) :
    addf (mulf (broadcastInDim SB ![] h0 (constant S0 .f32 (wA b)))
        (extractStridedSlice SB ![q, 0, 0, 0] (extractStridedSlice ⟨4, ![32, 3, 224, 224]⟩ ![p, 0, 0, 0] u h) h'))
      (mulf (broadcastInDim SB ![] h0 (constant S0 .f32 (wB b)))
        (Host.gather d (extractStridedSlice SB ![q, 0, 0, 0] (extractStridedSlice ⟨4, ![32, 3, 224, 224]⟩ ![p, 0, 0, 0] u h) h') idx))
      = blendAt u b := by
  rw [piece_eq u b p q h h' e]
  funext y
  have hm := mates u b d hoff hcoll hob hsim hivd idx hidx y
  unfold blendAt blend
  rw [if_pos hb, ← hm]
  rfl

/-- A block that copies a rectangle from the mate. -/
theorem cut_block {H W r0 : Nat} (hH : r0 + H = 224) (hW : W ≤ 224) (u : SX.Idx → F .f32) (b : Fin 4) (hb : adds b = false)
    (hr : boxR b = r0) (hc : boxC b = W) (p q : Nat)
    (h : SX.Slices ![p, 0, 0, 0] ⟨4, ![32, 3, 224, 224]⟩) (h' : (⟨4, ![32, 3, 224, 224]⟩ : Shape).Slices ![q, 0, 0, 0] SB)
    (e : p + q = 16 * b.val) (d : GatherDims SB ⟨2, ![16, 1]⟩ SB)
    (hoff : d.offsetDims = [1, 2, 3]) (hcoll : d.collapsedSliceDims = [0]) (hob : d.operandBatchingDims = [])
    (hsim : d.startIndexMap = [0]) (hivd : d.indexVectorDim = 1) (idx : IVec ⟨2, ![16, 1]⟩ 32)
    (hidx : ∀ j, idx (StableHlo.Predicate.ixP j) = BitVec.ofNat 32 (perm b j).val)
    (s : ScatterDims SB ⟨1, ![2]⟩ ⟨4, ![16, 3, H, W]⟩) (hwin : s.updateWindowDims = [0, 1, 2, 3]) (hins : s.insertedWindowDims = [])
    (hsd : s.scatterDimsToOperandDims = [2, 3]) (hsv : s.indexVectorDim = 0)
    (at' : IVec ⟨1, ![2]⟩ 32) (a0 : (at' (Shape.Idx.ofFin 0)).toInt = r0) (a1 : (at' (Shape.Idx.ofFin 1)).toInt = 0)
    (hs : SB.Slices ![0, 0, r0, 0] ⟨4, ![16, 3, H, W]⟩) :
    Host.scatter s (fun _ b => b)
        (extractStridedSlice SB ![q, 0, 0, 0] (extractStridedSlice ⟨4, ![32, 3, 224, 224]⟩ ![p, 0, 0, 0] u h) h') at'
        (extractStridedSlice ⟨4, ![16, 3, H, W]⟩ ![0, 0, r0, 0]
          (Host.gather d (extractStridedSlice SB ![q, 0, 0, 0] (extractStridedSlice ⟨4, ![32, 3, 224, 224]⟩ ![p, 0, 0, 0] u h) h') idx) hs)
      = blendAt u b := by
  rw [piece_eq u b p q h h' e]
  funext y
  have hm := mates u b d hoff hcoll hob hsim hivd idx hidx y
  unfold blendAt blend
  rw [if_neg (by rw [hb]; exact Bool.false_ne_true), hr, hc, ← hm]
  refine paste hH hW s hwin hins hsd hsv (piece u b) (Host.gather d (piece u b) idx) at' a0 a1 _ (fun k y e0 e1 e2 e3 => ?_) y
  refine extractStridedSlice_apply _ _ hs k y fun a => ?_
  match a with
  | ⟨0, _⟩ => show (y 0).val = 0 + (k 0).val; omega
  | ⟨1, _⟩ => show (y 1).val = 0 + (k 1).val; omega
  | ⟨2, _⟩ => exact e2
  | ⟨3, _⟩ => show (y 3).val = 0 + (k 3).val; omega

/-- The two words of a rectangle's corner laid end to end. -/
theorem corner (a b : (⟨1, ![1]⟩ : Shape).Idx → BitVec 32) (h : Shape.Concatenates [⟨1, ![1]⟩, ⟨1, ![1]⟩] ⟨1, ![2]⟩ 0) :
    concatenate ⟨1, ![2]⟩ 0 [⟨⟨1, ![1]⟩, a⟩, ⟨⟨1, ![1]⟩, b⟩] h (Shape.Idx.ofFin 0) = a (Shape.Idx.ofFin 0)
    ∧ concatenate ⟨1, ![2]⟩ 0 [⟨⟨1, ![1]⟩, a⟩, ⟨⟨1, ![1]⟩, b⟩] h (Shape.Idx.ofFin 1) = b (Shape.Idx.ofFin 0) := by
  constructor
  · refine concatenate_pair_apply_left (t := ⟨1, ![2]⟩) 0 a b h _ rfl (Shape.Idx.ofFin 0) fun c => ?_
    match c with
    | ⟨0, _⟩ => rfl
  · refine concatenate_pair_apply_right (t := ⟨1, ![2]⟩) 0 a b h _ rfl rfl (Shape.Idx.ofFin 0) (fun c hc => ?_) rfl
    match c with
    | ⟨0, _⟩ => exact absurd rfl hc

/-- A block of label rows. -/
theorem label_block (u : SO.Idx → F .f32) (b : Fin 4) (p q : Nat)
    (h : SO.Slices ![p, 0] ⟨2, ![32, 1000]⟩) (h' : (⟨2, ![32, 1000]⟩ : Shape).Slices ![q, 0] SR)
    (e : p + q = 16 * b.val) (d : GatherDims SR ⟨2, ![16, 1]⟩ SR)
    (hoff : d.offsetDims = [1]) (hcoll : d.collapsedSliceDims = [0]) (hob : d.operandBatchingDims = [])
    (hsim : d.startIndexMap = [0]) (hivd : d.indexVectorDim = 1) (idx : IVec ⟨2, ![16, 1]⟩ 32)
    (hidx : ∀ j, idx (StableHlo.Predicate.ixP j) = BitVec.ofNat 32 (perm b j).val) (h0 : S0.BroadcastsInDim SR ![]) :
    addf (mulf (broadcastInDim SR ![] h0 (constant S0 .f32 (wA b)))
        (extractStridedSlice SR ![q, 0] (extractStridedSlice ⟨2, ![32, 1000]⟩ ![p, 0] u h) h'))
      (mulf (broadcastInDim SR ![] h0 (constant S0 .f32 (wB b)))
        (Host.gather d (extractStridedSlice SR ![q, 0] (extractStridedSlice ⟨2, ![32, 1000]⟩ ![p, 0] u h) h') idx))
      = weighAt u b := by
  rw [rows_eq u b p q h h' e]
  funext y
  have hx : (ValueIdx.ix2 (y 0) (0 : Fin 1) : (⟨2, ![16, 1]⟩ : Shape).Idx) = StableHlo.Predicate.ixP (y 0) := by
    funext a
    match a with
    | ⟨0, _⟩ => rfl
    | ⟨1, _⟩ => rfl
  have hy : y = ValueIdx.ix2 (y 0) (y 1) := by
    funext a
    match a with
    | ⟨0, _⟩ => rfl
    | ⟨1, _⟩ => rfl
  have hm : Host.gather d (rows u b) idx y = u (ValueIdx.ix2 (pos b (perm b (y 0))) (y 1)) :=
    (congrArg (Host.gather d (rows u b) idx) hy).trans
      (Routing.gather_row d hoff hcoll hob hsim hivd (rows u b) idx (y 0) (y 1) (perm b (y 0))
        ((congrArg idx hx).trans (hidx (y 0))) (by omega))
  unfold weighAt
  rw [← hm]
  rfl

/-- A label's indicator as the host converts it: the bit itself is made a number, which is what its widening makes. -/
theorem hot_host (p : BitVec 32) (k : Nat) :
    (FloatOps.uitofp .f32 (IntOp.cmpi .eq p (BitVec.ofNat 32 k)) : Ideal .f32) = hot (F := Ideal) p k := by
  have hs : IntOp.cmpi .eq p (BitVec.ofNat 32 k) = IntOp.cmpi .eq (BitVec.ofNat 32 k) p := by
    show BitVec.ofBool (p == BitVec.ofNat 32 k) = BitVec.ofBool (BitVec.ofNat 32 k == p)
    rw [Bool.beq_comm]
  have := congrFun (sitofp_extui_eq_uitofp (s := S0) (φ := .f32) (fun _ => IntOp.cmpi .eq (BitVec.ofNat 32 k) p) (by omega)) (fun a => a.elim0)
  rw [hs]
  exact this.symm

end Cert.Mix

end
-- ==== Proof.ReferenceIdeal.Outcome.lean ====
/- The reference's two results: the mixed images and the mixed labels of the specification. -/
module

public import proofs.«01_k».proof.Proof.Mix.Blocks
public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem Cert.Mix

variable {F : FTy → Type} [FloatOps F]

/-- The positions the host's sort leaves. -/
def order (L : S64.Idx → BitVec 32) : S64.Idx → BitVec 32 :=
  (Host.sort2 S64 0 comparator_i32_i32_d0 (extui 32 (cmpi .eq L (broadcastInDim S64 ![] bcast_S_S64 (constantI S_ 32 999#32))) natLt_1_32) (iotaInDim S64 32 0)).2

/-- The word at position `n` is that of the order. -/
theorem order_word (L : S64.Idx → BitVec 32) (n : Fin 64) : order L (Shape.Idx.ofFin n) = BitVec.ofNat 32 (ord L n).val :=
  congrFun (sort_positions L (extui 32 (cmpi .eq L (broadcastInDim S64 ![] bcast_S_S64 (constantI S_ 32 999#32))) natLt_1_32) fun _ => rfl)
    (Shape.Idx.ofFin n)

/-- The positions as a column of start indices. -/
def orderCol (L : S64.Idx → BitVec 32) : S64x1.Idx → BitVec 32 :=
  broadcastInDim S64x1 ![0] bcast_S64_S64x1_0 (select (cmpi .slt (order L) (broadcastInDim S64 ![] bcast_S_S64 (constantI S_ 32 0#32)))
    (addi (order L) (broadcastInDim S64 ![] bcast_S_S64 (constantI S_ 32 64#32))) (order L))

/-- The column holds the same words. -/
theorem orderCol_word (L : S64.Idx → BitVec 32) (n : Fin 64) :
    orderCol L (StableHlo.Predicate.ixP n) = BitVec.ofNat 32 (ord L n).val :=
  column_word (by decide) (order L) 64#32 bcast_S64_S64x1_0 bcast_S_S64 n (ord L n) (order_word L n)

/-- The images in the order of the sort. -/
def sortedImages (X : S64x3x224x224.Idx → F .f32) (L : S64.Idx → BitVec 32) : S64x3x224x224.Idx → F .f32 :=
  Host.gather gather_S64x3x224x224_S64x1_S64x3x224x224_123_0_n_n_0_1_13224224 X (orderCol L)

/-- Image `n` of the sorted batch is image `ord L n` of the batch. -/
theorem sortedImages_at (X : S64x3x224x224.Idx → F .f32) (L : S64.Idx → BitVec 32) (n : Fin 64) (a : Fin 3) (b c : Fin 224) :
    sortedImages X L (ValueIdx.ix4 n a b c) = X (ValueIdx.ix4 (ord L n) a b c) :=
  take_image _ rfl rfl rfl rfl rfl X (orderCol L) n (ord L n) (by omega) (orderCol_word L n) a b c

/-- The one-hot rows of the labels in the order of the sort. -/
def sortedRows (L : S64.Idx → BitVec 32) : S64x1000.Idx → F .f32 :=
  uitofp .f32 (cmpi .eq (broadcastInDim S64x1000 ![0, 1] bcast_S64x1_S64x1000_0_1 (broadcastInDim S64x1 ![0] bcast_S64_S64x1_0
    (Host.gather gather_S64_S64x1_S64_n_0_n_n_0_1_1 L (orderCol L))))
    (broadcastInDim S64x1000 ![0, 1] bcast_S1x1000_S64x1000_0_1 (iotaInDim S1x1000 32 1)))

/-- Row `n` of the sorted rows is one at the label of image `ord L n` and zero elsewhere. -/
theorem sortedRows_at (L : S64.Idx → BitVec 32) (n : Fin 64) (k : Fin 1000) :
    sortedRows (F := Ideal) L (ValueIdx.ix2 n k) = hot (F := Ideal) (L (Shape.Idx.ofFin (ord L n))) k.val := by
  have e1 : broadcastInDim S64x1000 ![0, 1] bcast_S64x1_S64x1000_0_1 (broadcastInDim S64x1 ![0] bcast_S64_S64x1_0
      (Host.gather gather_S64_S64x1_S64_n_0_n_n_0_1_1 L (orderCol L))) (ValueIdx.ix2 n k) = L (Shape.Idx.ofFin (ord L n)) := by
    refine (broadcastInDim_apply _ _ _ _ (StableHlo.Predicate.ixP n) fun a => ?_).trans
      ((broadcastInDim_apply _ _ _ _ (Shape.Idx.ofFin n) fun a => ?_).trans
        (take_word _ rfl rfl rfl rfl L (orderCol L) n (ord L n) (by omega) (orderCol_word L n)))
    · match a with
      | ⟨0, _⟩ => rfl
      | ⟨1, _⟩ => rfl
    · match a with
      | ⟨0, _⟩ => rfl
  have e2 : broadcastInDim S64x1000 ![0, 1] bcast_S1x1000_S64x1000_0_1 (iotaInDim S1x1000 32 1) (ValueIdx.ix2 n k)
      = BitVec.ofNat 32 k.val := by
    refine (broadcastInDim_apply _ _ _ _ (StableHlo.Predicate.i1q k) fun a => ?_).trans rfl
    match a with
    | ⟨0, _⟩ => rfl
    | ⟨1, _⟩ => rfl
  exact (congrArg₂ (fun p q : BitVec 32 => (FloatOps.uitofp .f32 (IntOp.cmpi .eq p q) : Ideal .f32)) e1 e2).trans (hot_host _ _)

/-- A block's table as a column of start indices: the words are those of `perm`. -/
theorem tableCol_word (lit : Fin 16 → BitVec 32) (b : Fin 4) (h : ∀ j, lit j = BitVec.ofNat 32 (perm b j).val) (j : Fin 16) :
    broadcastInDim S16x1 ![0] bcast_S16_S16x1_0
      (select (cmpi .slt (fun i => lit (S16.rowMajor i)) (broadcastInDim S16 ![] bcast_S_S16 (constantI S_ 32 0#32)))
        (addi (fun i => lit (S16.rowMajor i)) (broadcastInDim S16 ![] bcast_S_S16 (constantI S_ 32 16#32)))
        (fun i => lit (S16.rowMajor i))) (StableHlo.Predicate.ixP j) = BitVec.ofNat 32 (perm b j).val :=
  column_word (by decide) (fun i => lit (S16.rowMajor i)) 16#32 bcast_S16_S16x1_0 bcast_S_S16 j (wide (perm b j)) (table_word lit b h j)

/-- The four tables of the program are the four rows of `perm`. -/
theorem lit0_word : ∀ j, lit0 j = BitVec.ofNat 32 (perm 0 j).val := by decide
theorem lit1_word : ∀ j, lit1 j = BitVec.ofNat 32 (perm 1 j).val := by decide
theorem lit2_word : ∀ j, lit2 j = BitVec.ofNat 32 (perm 2 j).val := by decide
theorem lit3_word : ∀ j, lit3 j = BitVec.ofNat 32 (perm 3 j).val := by decide

/-- The blended blocks of the sorted batch, joined, are the mixed images. -/
theorem blendAt_sorted (X : S64x3x224x224.Idx → F .f32) (L : S64.Idx → BitVec 32) (y : S64x3x224x224.Idx) :
    blendAt (sortedImages X L) (blk (y 0)) (ValueIdx.ix4 (row (y 0)) (y 1) (y 2) (y 3)) = images X L y := by
  have e1 : piece (sortedImages X L) (blk (y 0)) (ValueIdx.ix4 (row (y 0)) (y 1) (y 2) (y 3)) = pixel X (ord L (y 0)) y :=
    (sortedImages_at X L (pos (blk (y 0)) (row (y 0))) (y 1) (y 2) (y 3)).trans
      (congrArg (fun n => pixel X (ord L n) y) (pos_blk_row (y 0)))
  have e2 := sortedImages_at X L (mate (y 0)) (y 1) (y 2) (y 3)
  exact congrArg₂ (fun u v => blend (blk (y 0)) (y 2).val (y 3).val u v) e1 e2

/-- The weighed blocks of the sorted rows, joined, are the mixed labels. -/
theorem weighAt_sorted (L : S64.Idx → BitVec 32) (y : S64x1000.Idx) :
    weighAt (sortedRows (F := Ideal) L) (blk (y 0)) (ValueIdx.ix2 (row (y 0)) (y 1)) = labels (F := Ideal) L y := by
  have e1 : rows (sortedRows (F := Ideal) L) (blk (y 0)) (ValueIdx.ix2 (row (y 0)) (y 1))
      = hot (L (Shape.Idx.ofFin (ord L (y 0)))) (y 1).val :=
    (sortedRows_at L (pos (blk (y 0)) (row (y 0))) (y 1)).trans
      (congrArg (fun n => hot (L (Shape.Idx.ofFin (ord L n))) (y 1).val) (pos_blk_row (y 0)))
  have e2 := sortedRows_at L (mate (y 0)) (y 1)
  exact congrArg₂ (fun u v => weigh (blk (y 0)) u v) e1 e2

/-- The first result is the mixed images. -/
theorem images_value (m : (ℓ : Loc nD τ sig) → Buf (Elt F) ℓ) (c : Dev nD) :
    Value.res_main_v127 m c = images (m ((c.tc : Thread nD τ).loc main_arg0)) (m ((c.tc : Thread nD τ).loc main_arg1)) := by
  generalize hX : m ((c.tc : Thread nD τ).loc main_arg0) = X
  generalize hL : m ((c.tc : Thread nD τ).loc main_arg1) = L
  unfold Value.res_main_v127
  rw [hX, hL]
  funext y
  refine (join_images (blendAt (sortedImages X L)) _ _ _ _ _ ?_ ?_ ?_ ?_ y).trans (blendAt_sorted X L y)
  · exact mixed_block (sortedImages X L) 0 rfl 0 0 slices_S64x3x224x224_S32x3x224x224_0_0_0_0 slices_S32x3x224x224_S16x3x224x224_0_0_0_0 rfl
      gather_S16x3x224x224_S16x1_S16x3x224x224_123_0_n_n_0_1_13224224 rfl rfl rfl rfl rfl _ (tableCol_word lit0 0 lit0_word) _
  · exact cut_block (H := 144) (W := 148) (r0 := 80) rfl (by decide) (sortedImages X L) 1 rfl rfl rfl 0 16
      slices_S64x3x224x224_S32x3x224x224_0_0_0_0 slices_S32x3x224x224_S16x3x224x224_16_0_0_0 rfl
      gather_S16x3x224x224_S16x1_S16x3x224x224_123_0_n_n_0_1_13224224 rfl rfl rfl rfl rfl _ (tableCol_word lit1 1 lit1_word)
      scatter_S16x3x224x224_S2_S16x3x144x148_0123_n_23_0 rfl rfl rfl rfl _
      (congrArg BitVec.toInt (corner _ _ _).1) (congrArg BitVec.toInt (corner _ _ _).2) _
  · exact mixed_block (sortedImages X L) 2 rfl 32 0 slices_S64x3x224x224_S32x3x224x224_32_0_0_0 slices_S32x3x224x224_S16x3x224x224_0_0_0_0 rfl
      gather_S16x3x224x224_S16x1_S16x3x224x224_123_0_n_n_0_1_13224224 rfl rfl rfl rfl rfl _ (tableCol_word lit2 2 lit2_word) _
  · exact cut_block (H := 102) (W := 144) (r0 := 122) rfl (by decide) (sortedImages X L) 3 rfl rfl rfl 32 16
      slices_S64x3x224x224_S32x3x224x224_32_0_0_0 slices_S32x3x224x224_S16x3x224x224_16_0_0_0 rfl
      gather_S16x3x224x224_S16x1_S16x3x224x224_123_0_n_n_0_1_13224224 rfl rfl rfl rfl rfl _ (tableCol_word lit3 3 lit3_word)
      scatter_S16x3x224x224_S2_S16x3x102x144_0123_n_23_0 rfl rfl rfl rfl _
      (congrArg BitVec.toInt (corner _ _ _).1) (congrArg BitVec.toInt (corner _ _ _).2) _

/-- The second result is the mixed labels. -/
theorem labels_value (m : (ℓ : Loc nD τ sig) → Buf (Elt Ideal) ℓ) (c : Dev nD) :
    Value.res_main_v128 m c = labels (F := Ideal) (m ((c.tc : Thread nD τ).loc main_arg1)) := by
  generalize hL : m ((c.tc : Thread nD τ).loc main_arg1) = L
  unfold Value.res_main_v128
  rw [hL]
  funext y
  refine (join_rows (weighAt (sortedRows (F := Ideal) L)) _ _ _ _ _ ?_ ?_ ?_ ?_ y).trans (weighAt_sorted L y)
  · exact label_block (sortedRows L) 0 0 0 slices_S64x1000_S32x1000_0_0 slices_S32x1000_S16x1000_0_0 rfl
      gather_S16x1000_S16x1_S16x1000_1_0_n_n_0_1_11000 rfl rfl rfl rfl rfl _ (tableCol_word lit0 0 lit0_word) _
  · exact label_block (sortedRows L) 1 0 16 slices_S64x1000_S32x1000_0_0 slices_S32x1000_S16x1000_16_0 rfl
      gather_S16x1000_S16x1_S16x1000_1_0_n_n_0_1_11000 rfl rfl rfl rfl rfl _ (tableCol_word lit1 1 lit1_word) _
  · exact label_block (sortedRows L) 2 32 0 slices_S64x1000_S32x1000_32_0 slices_S32x1000_S16x1000_0_0 rfl
      gather_S16x1000_S16x1_S16x1000_1_0_n_n_0_1_11000 rfl rfl rfl rfl rfl _ (tableCol_word lit2 2 lit2_word) _
  · exact label_block (sortedRows L) 3 32 16 slices_S64x1000_S32x1000_32_0 slices_S32x1000_S16x1000_16_0 rfl
      gather_S16x1000_S16x1_S16x1000_1_0_n_n_0_1_11000 rfl rfl rfl rfl rfl _ (tableCol_word lit3 3 lit3_word) _

/-- Every run of the reference ends with the mixed images and the mixed labels in its two results, its arguments as they were
    and every semaphore at zero. -/
theorem outcome (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_v127)
          = images (F := Ideal) (m ((c.tc : Thread nD τ).loc main_arg0)) (m ((c.tc : Thread nD τ).loc main_arg1))
        ∧ r.2.mem ((c.tc : Thread nD τ).loc main_v128) = labels (F := Ideal) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).1.trans (images_value m c), (h c).2.1.trans (labels_value m c), (h c).2.2⟩,
    sem_eq_zero_of_no_sems rfl r.2⟩) (Value.run m ρ)

end Cert.ReferenceIdeal.Hand

end
-- ==== Proof.lean ====
/- The certificate: the printed kernel and its reading over the reals each run to the end with arguments kept and semaphores at
   zero, the reference does too, and over the reals the kernel's two results are the reference's. Both sides are shown equal to
   one specification (Proof/Mix/Spec.lean): the kernel in Proof/Kernel and Proof/KernelIdeal, the reference in
   Proof/ReferenceIdeal. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Outcome
public import proofs.«01_k».proof.Proof.KernelIdeal.Outcome
public import proofs.«01_k».proof.Proof.ReferenceIdeal.Outcome

@[expose] public section

noncomputable section

namespace Cert.Proof

open Idealize.ShloMosaic Idealize.SL.Sem

/-- The kernel over machine floats runs, keeps its arguments and leaves every semaphore at zero. -/
theorem frame_kernel : quiescent_Kernel (hKernel := Cert.Kernel.Gen.facts) := fun m g _ =>
  (θ_run _ _ _).mono (fun _ h => ⟨fun c => (h.1 c).2.2, h.2⟩) (Cert.Kernel.Hand.outcome m g)

/-- So does the kernel over the reals, -/
theorem frame_kernelIdeal : quiescent_KernelIdeal (hKernelIdeal := Cert.KernelIdeal.Gen.facts) := fun m g _ =>
  (θ_run _ _ _).mono (fun _ h => ⟨fun c => (h.1 c).2.2, h.2⟩) (Cert.KernelIdeal.Hand.outcome m g)

/-- and the reference. -/
theorem frame_referenceIdeal : quiescent_ReferenceIdeal (hReferenceIdeal := Cert.ReferenceIdeal.Gen.facts) := fun m g _ =>
  (θ_run _ _ _).mono (fun _ h => ⟨fun c => (h.1 c).2.2, h.2⟩) (Cert.ReferenceIdeal.Hand.outcome m g)

/-- Over the reals both results of the kernel are the reference's: each side ends with the mixed images and the mixed labels of
    the specification, taken of the same arguments. -/
theorem same_results : algebraic_KernelIdeal_ReferenceIdeal (hKernelIdeal := Cert.KernelIdeal.Gen.facts)
    (hReferenceIdeal := Cert.ReferenceIdeal.Gen.facts) := fun m g m' g' _ hm => by
  refine ⟨fun c => Cert.Mix.images (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Mix.labels (F := Ideal) (m ((c.tc : Thread Cert.KernelIdeal.nD Cert.KernelIdeal.τ).loc Cert.KernelIdeal.main_arg1)),
    (θ_run _ _ _).mono (fun _ h c => h.1 c) (Cert.KernelIdeal.Hand.outcome m g),
    (θ_run _ _ _).mono (fun _ h c => ?_) (Cert.ReferenceIdeal.Hand.outcome m' g')⟩
  obtain ⟨h0, h1, h2⟩ := h.1 c
  exact ⟨h0.trans (congrArg₂ (Cert.Mix.images (F := Ideal)) (hm c).1 (hm c).2), h1.trans (congrArg (Cert.Mix.labels (F := Ideal)) (hm c).2), h2⟩

/-- The certificate's claim. -/
theorem claim : Cert.Claim := ⟨Cert.Kernel.Gen.facts, Cert.KernelIdeal.Gen.facts, Cert.ReferenceIdeal.Gen.facts,
  frame_kernel, frame_kernelIdeal, frame_referenceIdeal, trivial, same_results⟩

end Cert.Proof

end
